-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S256x2x256 Cert.KernelIdeal.S256x1x256
  ∧ IdealRules.bf16_pair.PackStatement Cert.KernelIdeal.S256x256
  ∧ IdealRules.bf16_pair.Statement Cert.KernelIdeal.S256x2x256 Cert.KernelIdeal.S256x1x256
  ∧ IdealRules.bf16_pair.Statement Cert.KernelIdeal.S8x2x256 Cert.KernelIdeal.S8x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x14336x2048 : Shape := ⟨3, ![4, 14336, 2048]⟩
abbrev S4x14336x32 : Shape := ⟨3, ![4, 14336, 32]⟩
abbrev S4x24x4096 : Shape := ⟨3, ![4, 24, 4096]⟩
abbrev S4x14336x24 : Shape := ⟨3, ![4, 14336, 24]⟩
abbrev S4x14336 : Shape := ⟨2, ![4, 14336]⟩
abbrev S128x128 : Shape := ⟨2, ![128, 128]⟩
abbrev S256x128 : Shape := ⟨2, ![256, 128]⟩
abbrev S128x256 : Shape := ⟨2, ![128, 256]⟩
abbrev S4x3584x128 : Shape := ⟨3, ![4, 3584, 128]⟩
abbrev S4x3584x96 : Shape := ⟨3, ![4, 3584, 96]⟩
abbrev S_ : Shape := ⟨0, ![]⟩
abbrev S4x3584x4 : Shape := ⟨3, ![4, 3584, 4]⟩
abbrev S4x4x3584 : Shape := ⟨3, ![4, 4, 3584]⟩
abbrev S4x24x1024x2x2 : Shape := ⟨5, ![4, 24, 1024, 2, 2]⟩
abbrev S4x1024x2x2x24 : Shape := ⟨5, ![4, 1024, 2, 2, 24]⟩
abbrev S4x1024x2x2x1x1x24 : Shape := ⟨7, ![4, 1024, 2, 2, 1, 1, 24]⟩
abbrev S4x4 : Shape := ⟨2, ![4, 4]⟩
abbrev S4x4x1 : Shape := ⟨3, ![4, 4, 1]⟩
abbrev S1x1x1x1x4x4x1 : Shape := ⟨7, ![1, 1, 1, 1, 4, 4, 1]⟩
abbrev S4x1024x2x2x4x4x24 : Shape := ⟨7, ![4, 1024, 2, 2, 4, 4, 24]⟩
abbrev S4x16384x96 : Shape := ⟨3, ![4, 16384, 96]⟩
abbrev S4x16384x128 : Shape := ⟨3, ![4, 16384, 128]⟩
abbrev S1x1024x2048 : Shape := ⟨3, ![1, 1024, 2048]⟩
abbrev S1x256x128 : Shape := ⟨3, ![1, 256, 128]⟩
abbrev S1x4x256 : Shape := ⟨3, ![1, 4, 256]⟩
abbrev S1x16384x128 : Shape := ⟨3, ![1, 16384, 128]⟩
abbrev S16384x256 : Shape := ⟨2, ![16384, 256]⟩
abbrev S256x256 : Shape := ⟨2, ![256, 256]⟩
abbrev S8x256 : Shape := ⟨2, ![8, 256]⟩
abbrev S1x1024x128 : Shape := ⟨3, ![1, 1024, 128]⟩
abbrev S1024x128 : Shape := ⟨2, ![1024, 128]⟩
abbrev S16x256 : Shape := ⟨2, ![16, 256]⟩
abbrev S8x2x8x256 : Shape := ⟨4, ![8, 2, 8, 256]⟩
abbrev S1x1x8x256 : Shape := ⟨4, ![1, 1, 8, 256]⟩
abbrev S8x1x8x256 : Shape := ⟨4, ![8, 1, 8, 256]⟩
abbrev S8x8x256 : Shape := ⟨3, ![8, 8, 256]⟩
abbrev S64x256 : Shape := ⟨2, ![64, 256]⟩
abbrev S16x8x256 : Shape := ⟨3, ![16, 8, 256]⟩
abbrev S16x1x256 : Shape := ⟨3, ![16, 1, 256]⟩
abbrev S8x16x256 : Shape := ⟨3, ![8, 16, 256]⟩
abbrev S1x16x256 : Shape := ⟨3, ![1, 16, 256]⟩
abbrev S1x128x128 : Shape := ⟨3, ![1, 128, 128]⟩
abbrev S1x8x256 : Shape := ⟨3, ![1, 8, 256]⟩
abbrev S4x256 : Shape := ⟨2, ![4, 256]⟩
abbrev S32x8x256 : Shape := ⟨3, ![32, 8, 256]⟩

abbrev nBuf : Space → Nat
  | .hbm => 36
  | .vmem => 23
  | .smem => 0
  | _ => 0

abbrev bufTy : (tb : Table) → Fin (tcTables nBuf tb) → BufTy
  | .hbm, ⟨0, _⟩ => ⟨S4x14336x2048, .i8⟩
  | .hbm, ⟨1, _⟩ => ⟨S4x14336x32, .bf16⟩
  | .hbm, ⟨2, _⟩ => ⟨S4x24x4096, .bf16⟩
  | .hbm, ⟨3, _⟩ => ⟨S4x14336x24, .bf16⟩
  | .hbm, ⟨4, _⟩ => ⟨S4x14336, .f32⟩
  | .hbm, ⟨5, _⟩ => ⟨S128x128, .bf16⟩
  | .hbm, ⟨6, _⟩ => ⟨S256x128, .bf16⟩
  | .hbm, ⟨7, _⟩ => ⟨S128x256, .bf16⟩
  | .hbm, ⟨8, _⟩ => ⟨S4x3584x128, .bf16⟩
  | .hbm, ⟨9, _⟩ => ⟨S4x3584x96, .bf16⟩
  | .hbm, ⟨10, _⟩ => ⟨S_, .i32⟩
  | .hbm, ⟨11, _⟩ => ⟨S_, .bf16⟩
  | .hbm, ⟨12, _⟩ => ⟨S4x3584x128, .bf16⟩
  | .hbm, ⟨13, _⟩ => ⟨S4x3584x4, .f32⟩
  | .hbm, ⟨14, _⟩ => ⟨S4x4x3584, .f32⟩
  | .hbm, ⟨15, _⟩ => ⟨S4x24x1024x2x2, .bf16⟩
  | .hbm, ⟨16, _⟩ => ⟨S4x1024x2x2x24, .bf16⟩
  | .hbm, ⟨17, _⟩ => ⟨S4x1024x2x2x1x1x24, .bf16⟩
  | .hbm, ⟨18, _⟩ => ⟨S4x4, .i32⟩
  | .hbm, ⟨19, _⟩ => ⟨S4x4, .i32⟩
  | .hbm, ⟨20, _⟩ => ⟨S_, .i32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S4x4, .bf16⟩
  | .hbm, ⟨25, _⟩ => ⟨S4x4x1, .bf16⟩
  | .hbm, ⟨26, _⟩ => ⟨S1x1x1x1x4x4x1, .bf16⟩
  | .hbm, ⟨27, _⟩ => ⟨S4x1024x2x2x4x4x24, .bf16⟩
  | .hbm, ⟨28, _⟩ => ⟨S4x1024x2x2x4x4x24, .bf16⟩
  | .hbm, ⟨29, _⟩ => ⟨S4x1024x2x2x4x4x24, .bf16⟩
  | .hbm, ⟨30, _⟩ => ⟨S4x16384x96, .bf16⟩
  | .hbm, ⟨31, _⟩ => ⟨S_, .i32⟩
  | .hbm, ⟨32, _⟩ => ⟨S_, .bf16⟩
  | .hbm, ⟨33, _⟩ => ⟨S4x16384x128, .bf16⟩
  | .hbm, ⟨34, _⟩ => ⟨S4x14336x2048, .i8⟩
  | .hbm, ⟨35, _⟩ => ⟨S4x3584x128, .bf16⟩
  | .local _ .vmem, ⟨0, _⟩ => ⟨S1x1024x2048, .i8⟩
  | .local _ .vmem, ⟨1, _⟩ => ⟨S1x1024x2048, .i8⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4x256, .f32⟩
  | .local _ .vmem, ⟨7, _⟩ => ⟨S1x4x256, .f32⟩
  | .local _ .vmem, ⟨8, _⟩ => ⟨S1x16384x128, .bf16⟩
  | .local _ .vmem, ⟨9, _⟩ => ⟨S1x16384x128, .bf16⟩
  | .local _ .vmem, ⟨10, _⟩ => ⟨S128x128, .bf16⟩
  | .local _ .vmem, ⟨11, _⟩ => ⟨S256x128, .bf16⟩
  | .local _ .vmem, ⟨12, _⟩ => ⟨S128x256, .bf16⟩
  | .local _ .vmem, ⟨13, _⟩ => ⟨S1x1024x2048, .i8⟩
  | .local _ .vmem, ⟨14, _⟩ => ⟨S1x1024x2048, .i8⟩
  | .local _ .vmem, ⟨15, _⟩ => ⟨S1x256x128, .bf16⟩
  | .local _ .vmem, ⟨16, _⟩ => ⟨S1x256x128, .bf16⟩
  | .local _ .vmem, ⟨17, _⟩ => ⟨S16384x256, .f32⟩
  | .local _ .vmem, ⟨18, _⟩ => ⟨S256x256, .f32⟩
  | .local _ .vmem, ⟨19, _⟩ => ⟨S256x256, .i32⟩
  | .local _ .vmem, ⟨20, _⟩ => ⟨S256x256, .f32⟩
  | .local _ .vmem, ⟨21, _⟩ => ⟨S8x256, .f32⟩
  | .local _ .vmem, ⟨22, _⟩ => ⟨S128x256, .bf16⟩
  | _, _ => ⟨S4x14336x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call1_v0 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![57], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_47 : BitVec 32 := 0#32
  let c128_i32 : BitVec 32 := 128#32
  let v82 : BitVec 32 := Scalar.addi c0_i32_47 c128_i32
  let c1_i32_48 : BitVec 32 := 1#32
  ⟨c0_i32_47, v82, c1_i32_48⟩
def k0_off1 (k0_t1 : Fin k0_t1_loop.trips) : Fin 2 → Nat :=
  let c0_i32_47 : BitVec 32 := 0#32
  let c1_i32_48 : BitVec 32 := 1#32
  let arg17 : BitVec 32 := Scf.iv c0_i32_47 c1_i32_48 k0_t1
  let c128_i32_51 : BitVec 32 := 128#32
  let v84 : BitVec 32 := Scalar.muli arg17 c128_i32_51
  let v85 : Index := Scalar.indexCast v84
  let c0_52 : Index := 0#32
  ![v85.toNat, 0]
@[reducible] def k0_t2_loop : Scf.Loop 32 :=
  let c0_i32_18 : BitVec 32 := 0#32
  let c16_i32 : BitVec 32 := 16#32
  let v29 : BitVec 32 := Scalar.addi c0_i32_18 c16_i32
  let c1_i32 : BitVec 32 := 1#32
  ⟨c0_i32_18, v29, c1_i32⟩
def k0_mult1 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c128_i32 : BitVec 32 := 128#32
  let v78 : BitVec 32 := Scalar.muli arg17 c128_i32
  v78
def k0_off2 (k0_t2 : Fin k0_t2_loop.trips) : Fin 3 → Nat :=
  let c0_44 : Index := 0#32
  let c0_45 : Index := 0#32
  let c0_i32_18 : BitVec 32 := 0#32
  let c1_i32 : BitVec 32 := 1#32
  let arg17 : BitVec 32 := Scf.iv c0_i32_18 c1_i32 k0_t2
  let c128_i32 : BitVec 32 := 128#32
  let v78 : BitVec 32 := Scalar.muli arg17 c128_i32
  let v79 : BitVec 32 := v78
  let v80 : Index := Scalar.indexCast v79
  ![0, 0, v80.toNat]
def k0_mult2 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c8_i32 : BitVec 32 := 8#32
  let v88 : BitVec 32 := Scalar.muli v87 c8_i32
  v88
def k0_off3 (k0_t2 : Fin k0_t2_loop.trips) (c0_i32_48 : BitVec 32) : Fin 2 → Nat :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c8_i32 : BitVec 32 := 8#32
  let v88 : BitVec 32 := Scalar.muli v87 c8_i32
  let v89 : BitVec 32 := v88
  let v90 : Index := Scalar.indexCast v89
  let c0_49 : Index := 0#32
  ![v90.toNat, 0]
def k0_mult3 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_52 : BitVec 32 := 4#32
  let v96 : BitVec 32 := Scalar.muli v87 c4_i32_52
  let c0_i32_53 : BitVec 32 := 0#32
  let v97 : BitVec 32 := Scalar.addi v96 c0_i32_53
  let c128_i32_54 : BitVec 32 := 128#32
  let v98 : BitVec 32 := Scalar.muli v97 c128_i32_54
  v98
def k0_off4 (k0_t2 : Fin k0_t2_loop.trips) (c0_i32_48 : BitVec 32) (c0_i32_53 : BitVec 32) : Fin 2 → Nat :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c4_i32_52 : BitVec 32 := 4#32
  let v96 : BitVec 32 := Scalar.muli v87 c4_i32_52
  let v97 : BitVec 32 := Scalar.addi v96 c0_i32_53
  let c128_i32_54 : BitVec 32 := 128#32
  let v98 : BitVec 32 := Scalar.muli v97 c128_i32_54
  let v99 : BitVec 32 := v98
  let v100 : Index := Scalar.indexCast v99
  let c0_55 : Index := 0#32
  ![v100.toNat, 0]
def k0_off5 (k0_t2 : Fin k0_t2_loop.trips) (c0_i32_48 : BitVec 32) (c0_i32_53 : BitVec 32) : Fin 3 → Nat :=
  let c0_62 : Index := 0#32
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c4_i32_52 : BitVec 32 := 4#32
  let v96 : BitVec 32 := Scalar.muli v87 c4_i32_52
  let v97 : BitVec 32 := Scalar.addi v96 c0_i32_53
  let c128_i32_54 : BitVec 32 := 128#32
  let v98 : BitVec 32 := Scalar.muli v97 c128_i32_54
  let v99 : BitVec 32 := v98
  let v145 : Index := Scalar.indexCast v99
  let c0_63 : Index := 0#32
  ![0, v145.toNat, 0]
def k0_mult4 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_68 : BitVec 32 := 4#32
  let v317 : BitVec 32 := Scalar.muli v87 c4_i32_68
  let c1_i32_69 : BitVec 32 := 1#32
  let v318 : BitVec 32 := Scalar.addi v317 c1_i32_69
  let c128_i32_70 : BitVec 32 := 128#32
  let v319 : BitVec 32 := Scalar.muli v318 c128_i32_70
  v319
def k0_mult5 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_86 : BitVec 32 := 4#32
  let v538 : BitVec 32 := Scalar.muli v87 c4_i32_86
  let c2_i32_87 : BitVec 32 := 2#32
  let v539 : BitVec 32 := Scalar.addi v538 c2_i32_87
  let c128_i32_88 : BitVec 32 := 128#32
  let v540 : BitVec 32 := Scalar.muli v539 c128_i32_88
  v540
def k0_mult6 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_104 : BitVec 32 := 4#32
  let v759 : BitVec 32 := Scalar.muli v87 c4_i32_104
  let c3_i32 : BitVec 32 := 3#32
  let v760 : BitVec 32 := Scalar.addi v759 c3_i32
  let c128_i32_105 : BitVec 32 := 128#32
  let v761 : BitVec 32 := Scalar.muli v760 c128_i32_105
  v761
def k0_mult7 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c8_i32_124 : BitVec 32 := 8#32
  let v986 : BitVec 32 := Scalar.muli v985 c8_i32_124
  v986
def k0_mult8 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_128 : BitVec 32 := 4#32
  let v994 : BitVec 32 := Scalar.muli v985 c4_i32_128
  let c0_i32_129 : BitVec 32 := 0#32
  let v995 : BitVec 32 := Scalar.addi v994 c0_i32_129
  let c128_i32_130 : BitVec 32 := 128#32
  let v996 : BitVec 32 := Scalar.muli v995 c128_i32_130
  v996
def k0_mult9 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_146 : BitVec 32 := 4#32
  let v1215 : BitVec 32 := Scalar.muli v985 c4_i32_146
  let c1_i32_147 : BitVec 32 := 1#32
  let v1216 : BitVec 32 := Scalar.addi v1215 c1_i32_147
  let c128_i32_148 : BitVec 32 := 128#32
  let v1217 : BitVec 32 := Scalar.muli v1216 c128_i32_148
  v1217
def k0_mult10 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_164 : BitVec 32 := 4#32
  let v1436 : BitVec 32 := Scalar.muli v985 c4_i32_164
  let c2_i32_165 : BitVec 32 := 2#32
  let v1437 : BitVec 32 := Scalar.addi v1436 c2_i32_165
  let c128_i32_166 : BitVec 32 := 128#32
  let v1438 : BitVec 32 := Scalar.muli v1437 c128_i32_166
  v1438
def k0_mult11 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_182 : BitVec 32 := 4#32
  let v1657 : BitVec 32 := Scalar.muli v985 c4_i32_182
  let c3_i32_183 : BitVec 32 := 3#32
  let v1658 : BitVec 32 := Scalar.addi v1657 c3_i32_183
  let c128_i32_184 : BitVec 32 := 128#32
  let v1659 : BitVec 32 := Scalar.muli v1658 c128_i32_184
  v1659
def cc0_transform_0 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_3 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_4 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let v2 : BitVec 32 := Scalar.divsi v1 c14_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c14_i32 c0_i32_2
  let v9 : BitVec 32 := Scalar.extui v8
  let c0_i32_3 : BitVec 32 := 0#32
  let v10 : BitVec 1 := Scalar.cmpi .slt c14_i32 c0_i32_3
  let v11 : BitVec 32 := Scalar.extui v10
  let v12 : BitVec 32 := Scalar.subi v9 v11
  let v13 : BitVec 1 := Scalar.cmpi .ne v7 v12
  let v14 : BitVec 32 := Scalar.remsi v1 c14_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c14_i32_8 : BitVec 32 := 14#32
  let c0_i32_9 : BitVec 32 := 0#32
  let v21 : BitVec 1 := Scalar.cmpi .eq c14_i32_8 c0_i32_9
  let c1_i32_10 : BitVec 32 := 1#32
  let v22 : BitVec 32 := Scalar.select v21 c1_i32_10 c14_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_9 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

abbrev stage0_0 : Fin 2 → Memref sig .tc .vmem S1x1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S4x14336x2048 : Shape := ⟨3, ![4, 14336, 2048]⟩
abbrev S4x14336x32 : Shape := ⟨3, ![4, 14336, 32]⟩
abbrev S4x24x4096 : Shape := ⟨3, ![4, 24, 4096]⟩
abbrev S4x14336x24 : Shape := ⟨3, ![4, 14336, 24]⟩
abbrev S4x14336 : Shape := ⟨2, ![4, 14336]⟩
abbrev S128x128 : Shape := ⟨2, ![128, 128]⟩
abbrev S256x128 : Shape := ⟨2, ![256, 128]⟩
abbrev S128x256 : Shape := ⟨2, ![128, 256]⟩
abbrev S4x3584x128 : Shape := ⟨3, ![4, 3584, 128]⟩
abbrev S4x3584x96 : Shape := ⟨3, ![4, 3584, 96]⟩
abbrev S_ : Shape := ⟨0, ![]⟩
abbrev S4x3584x4 : Shape := ⟨3, ![4, 3584, 4]⟩
abbrev S4x4x3584 : Shape := ⟨3, ![4, 4, 3584]⟩
abbrev S4x24x1024x2x2 : Shape := ⟨5, ![4, 24, 1024, 2, 2]⟩
abbrev S4x1024x2x2x24 : Shape := ⟨5, ![4, 1024, 2, 2, 24]⟩
abbrev S4x1024x2x2x1x1x24 : Shape := ⟨7, ![4, 1024, 2, 2, 1, 1, 24]⟩
abbrev S4x4 : Shape := ⟨2, ![4, 4]⟩
abbrev S4x4x1 : Shape := ⟨3, ![4, 4, 1]⟩
abbrev S1x1x1x1x4x4x1 : Shape := ⟨7, ![1, 1, 1, 1, 4, 4, 1]⟩
abbrev S4x1024x2x2x4x4x24 : Shape := ⟨7, ![4, 1024, 2, 2, 4, 4, 24]⟩
abbrev S4x16384x96 : Shape := ⟨3, ![4, 16384, 96]⟩
abbrev S4x16384x128 : Shape := ⟨3, ![4, 16384, 128]⟩
abbrev S1x1024x2048 : Shape := ⟨3, ![1, 1024, 2048]⟩
abbrev S1x256x128 : Shape := ⟨3, ![1, 256, 128]⟩
abbrev S1x4x256 : Shape := ⟨3, ![1, 4, 256]⟩
abbrev S1x16384x128 : Shape := ⟨3, ![1, 16384, 128]⟩
abbrev S16384x256 : Shape := ⟨2, ![16384, 256]⟩
abbrev S256x256 : Shape := ⟨2, ![256, 256]⟩
abbrev S256x2x256 : Shape := ⟨3, ![256, 2, 256]⟩
abbrev S256x1x256 : Shape := ⟨3, ![256, 1, 256]⟩
abbrev S8x256 : Shape := ⟨2, ![8, 256]⟩
abbrev S1x1024x128 : Shape := ⟨3, ![1, 1024, 128]⟩
abbrev S1024x128 : Shape := ⟨2, ![1024, 128]⟩
abbrev S8x2x256 : Shape := ⟨3, ![8, 2, 256]⟩
abbrev S8x1x256 : Shape := ⟨3, ![8, 1, 256]⟩
abbrev S16x256 : Shape := ⟨2, ![16, 256]⟩
abbrev S8x2x8x256 : Shape := ⟨4, ![8, 2, 8, 256]⟩
abbrev S1x1x8x256 : Shape := ⟨4, ![1, 1, 8, 256]⟩
abbrev S8x1x8x256 : Shape := ⟨4, ![8, 1, 8, 256]⟩
abbrev S8x8x256 : Shape := ⟨3, ![8, 8, 256]⟩
abbrev S64x256 : Shape := ⟨2, ![64, 256]⟩
abbrev S16x8x256 : Shape := ⟨3, ![16, 8, 256]⟩
abbrev S16x1x256 : Shape := ⟨3, ![16, 1, 256]⟩
abbrev S8x16x256 : Shape := ⟨3, ![8, 16, 256]⟩
abbrev S1x16x256 : Shape := ⟨3, ![1, 16, 256]⟩
abbrev S1x128x128 : Shape := ⟨3, ![1, 128, 128]⟩
abbrev S1x8x256 : Shape := ⟨3, ![1, 8, 256]⟩
abbrev S4x256 : Shape := ⟨2, ![4, 256]⟩
abbrev S32x8x256 : Shape := ⟨3, ![32, 8, 256]⟩

abbrev nBuf : Space → Nat
  | .hbm => 36
  | .vmem => 23
  | .smem => 0
  | _ => 0

abbrev bufTy : (tb : Table) → Fin (tcTables nBuf tb) → BufTy
  | .hbm, ⟨0, _⟩ => ⟨S4x14336x2048, .i8⟩
  | .hbm, ⟨1, _⟩ => ⟨S4x14336x32, .bf16⟩
  | .hbm, ⟨2, _⟩ => ⟨S4x24x4096, .bf16⟩
  | .hbm, ⟨3, _⟩ => ⟨S4x14336x24, .bf16⟩
  | .hbm, ⟨4, _⟩ => ⟨S4x14336, .f32⟩
  | .hbm, ⟨5, _⟩ => ⟨S128x128, .bf16⟩
  | .hbm, ⟨6, _⟩ => ⟨S256x128, .bf16⟩
  | .hbm, ⟨7, _⟩ => ⟨S128x256, .bf16⟩
  | .hbm, ⟨8, _⟩ => ⟨S4x3584x128, .bf16⟩
  | .hbm, ⟨9, _⟩ => ⟨S4x3584x96, .bf16⟩
  | .hbm, ⟨10, _⟩ => ⟨S_, .i32⟩
  | .hbm, ⟨11, _⟩ => ⟨S_, .bf16⟩
  | .hbm, ⟨12, _⟩ => ⟨S4x3584x128, .bf16⟩
  | .hbm, ⟨13, _⟩ => ⟨S4x3584x4, .f32⟩
  | .hbm, ⟨14, _⟩ => ⟨S4x4x3584, .f32⟩
  | .hbm, ⟨15, _⟩ => ⟨S4x24x1024x2x2, .bf16⟩
  | .hbm, ⟨16, _⟩ => ⟨S4x1024x2x2x24, .bf16⟩
  | .hbm, ⟨17, _⟩ => ⟨S4x1024x2x2x1x1x24, .bf16⟩
  | .hbm, ⟨18, _⟩ => ⟨S4x4, .i32⟩
  | .hbm, ⟨19, _⟩ => ⟨S4x4, .i32⟩
  | .hbm, ⟨20, _⟩ => ⟨S_, .i32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S4x4, .bf16⟩
  | .hbm, ⟨25, _⟩ => ⟨S4x4x1, .bf16⟩
  | .hbm, ⟨26, _⟩ => ⟨S1x1x1x1x4x4x1, .bf16⟩
  | .hbm, ⟨27, _⟩ => ⟨S4x1024x2x2x4x4x24, .bf16⟩
  | .hbm, ⟨28, _⟩ => ⟨S4x1024x2x2x4x4x24, .bf16⟩
  | .hbm, ⟨29, _⟩ => ⟨S4x1024x2x2x4x4x24, .bf16⟩
  | .hbm, ⟨30, _⟩ => ⟨S4x16384x96, .bf16⟩
  | .hbm, ⟨31, _⟩ => ⟨S_, .i32⟩
  | .hbm, ⟨32, _⟩ => ⟨S_, .bf16⟩
  | .hbm, ⟨33, _⟩ => ⟨S4x16384x128, .bf16⟩
  | .hbm, ⟨34, _⟩ => ⟨S4x14336x2048, .i8⟩
  | .hbm, ⟨35, _⟩ => ⟨S4x3584x128, .bf16⟩
  | .local _ .vmem, ⟨0, _⟩ => ⟨S1x1024x2048, .i8⟩
  | .local _ .vmem, ⟨1, _⟩ => ⟨S1x1024x2048, .i8⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4x256, .f32⟩
  | .local _ .vmem, ⟨7, _⟩ => ⟨S1x4x256, .f32⟩
  | .local _ .vmem, ⟨8, _⟩ => ⟨S1x16384x128, .bf16⟩
  | .local _ .vmem, ⟨9, _⟩ => ⟨S1x16384x128, .bf16⟩
  | .local _ .vmem, ⟨10, _⟩ => ⟨S128x128, .bf16⟩
  | .local _ .vmem, ⟨11, _⟩ => ⟨S256x128, .bf16⟩
  | .local _ .vmem, ⟨12, _⟩ => ⟨S128x256, .bf16⟩
  | .local _ .vmem, ⟨13, _⟩ => ⟨S1x1024x2048, .i8⟩
  | .local _ .vmem, ⟨14, _⟩ => ⟨S1x1024x2048, .i8⟩
  | .local _ .vmem, ⟨15, _⟩ => ⟨S1x256x128, .bf16⟩
  | .local _ .vmem, ⟨16, _⟩ => ⟨S1x256x128, .bf16⟩
  | .local _ .vmem, ⟨17, _⟩ => ⟨S16384x256, .f32⟩
  | .local _ .vmem, ⟨18, _⟩ => ⟨S256x256, .f32⟩
  | .local _ .vmem, ⟨19, _⟩ => ⟨S256x2x256, .bf16⟩
  | .local _ .vmem, ⟨20, _⟩ => ⟨S256x256, .f32⟩
  | .local _ .vmem, ⟨21, _⟩ => ⟨S8x256, .f32⟩
  | .local _ .vmem, ⟨22, _⟩ => ⟨S128x256, .bf16⟩
  | _, _ => ⟨S4x14336x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call1_v0 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![57], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_47 : BitVec 32 := 0#32
  let c128_i32 : BitVec 32 := 128#32
  let v82 : BitVec 32 := Scalar.addi c0_i32_47 c128_i32
  let c1_i32_48 : BitVec 32 := 1#32
  ⟨c0_i32_47, v82, c1_i32_48⟩
def k0_off1 (k0_t1 : Fin k0_t1_loop.trips) : Fin 2 → Nat :=
  let c0_i32_47 : BitVec 32 := 0#32
  let c1_i32_48 : BitVec 32 := 1#32
  let arg17 : BitVec 32 := Scf.iv c0_i32_47 c1_i32_48 k0_t1
  let c128_i32_51 : BitVec 32 := 128#32
  let v84 : BitVec 32 := Scalar.muli arg17 c128_i32_51
  let v85 : Index := Scalar.indexCast v84
  let c0_52 : Index := 0#32
  ![v85.toNat, 0]
@[reducible] def k0_t2_loop : Scf.Loop 32 :=
  let c0_i32_18 : BitVec 32 := 0#32
  let c16_i32 : BitVec 32 := 16#32
  let v29 : BitVec 32 := Scalar.addi c0_i32_18 c16_i32
  let c1_i32 : BitVec 32 := 1#32
  ⟨c0_i32_18, v29, c1_i32⟩
def k0_mult1 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c128_i32 : BitVec 32 := 128#32
  let v78 : BitVec 32 := Scalar.muli arg17 c128_i32
  v78
def k0_off2 (k0_t2 : Fin k0_t2_loop.trips) : Fin 3 → Nat :=
  let c0_44 : Index := 0#32
  let c0_45 : Index := 0#32
  let c0_i32_18 : BitVec 32 := 0#32
  let c1_i32 : BitVec 32 := 1#32
  let arg17 : BitVec 32 := Scf.iv c0_i32_18 c1_i32 k0_t2
  let c128_i32 : BitVec 32 := 128#32
  let v78 : BitVec 32 := Scalar.muli arg17 c128_i32
  let v79 : BitVec 32 := v78
  let v80 : Index := Scalar.indexCast v79
  ![0, 0, v80.toNat]
def k0_mult2 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c8_i32 : BitVec 32 := 8#32
  let v88 : BitVec 32 := Scalar.muli v87 c8_i32
  v88
def k0_off3 (k0_t2 : Fin k0_t2_loop.trips) (c0_i32_48 : BitVec 32) : Fin 3 → Nat :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c8_i32 : BitVec 32 := 8#32
  let v88 : BitVec 32 := Scalar.muli v87 c8_i32
  let v89 : BitVec 32 := v88
  let v90 : Index := Scalar.indexCast v89
  let c0_49 : Index := 0#32
  ![v90.toNat, 0, 0]
def k0_off4 (k0_t2 : Fin k0_t2_loop.trips) (c0_i32_48 : BitVec 32) : Fin 2 → Nat :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c8_i32 : BitVec 32 := 8#32
  let v88 : BitVec 32 := Scalar.muli v87 c8_i32
  let v89 : BitVec 32 := v88
  let v93 : Index := Scalar.indexCast v89
  let c0_50 : Index := 0#32
  ![v93.toNat, 0]
def k0_mult3 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_52 : BitVec 32 := 4#32
  let v96 : BitVec 32 := Scalar.muli v87 c4_i32_52
  let c0_i32_53 : BitVec 32 := 0#32
  let v97 : BitVec 32 := Scalar.addi v96 c0_i32_53
  let c128_i32_54 : BitVec 32 := 128#32
  let v98 : BitVec 32 := Scalar.muli v97 c128_i32_54
  v98
def k0_off5 (k0_t2 : Fin k0_t2_loop.trips) (c0_i32_48 : BitVec 32) (c0_i32_53 : BitVec 32) : Fin 2 → Nat :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c4_i32_52 : BitVec 32 := 4#32
  let v96 : BitVec 32 := Scalar.muli v87 c4_i32_52
  let v97 : BitVec 32 := Scalar.addi v96 c0_i32_53
  let c128_i32_54 : BitVec 32 := 128#32
  let v98 : BitVec 32 := Scalar.muli v97 c128_i32_54
  let v99 : BitVec 32 := v98
  let v100 : Index := Scalar.indexCast v99
  let c0_55 : Index := 0#32
  ![v100.toNat, 0]
def k0_off6 (k0_t2 : Fin k0_t2_loop.trips) (c0_i32_48 : BitVec 32) (c0_i32_53 : BitVec 32) : Fin 3 → Nat :=
  let c0_62 : Index := 0#32
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let v87 : BitVec 32 := Scalar.addi v86 c0_i32_48
  let c4_i32_52 : BitVec 32 := 4#32
  let v96 : BitVec 32 := Scalar.muli v87 c4_i32_52
  let v97 : BitVec 32 := Scalar.addi v96 c0_i32_53
  let c128_i32_54 : BitVec 32 := 128#32
  let v98 : BitVec 32 := Scalar.muli v97 c128_i32_54
  let v99 : BitVec 32 := v98
  let v145 : Index := Scalar.indexCast v99
  let c0_63 : Index := 0#32
  ![0, v145.toNat, 0]
def k0_mult4 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_68 : BitVec 32 := 4#32
  let v317 : BitVec 32 := Scalar.muli v87 c4_i32_68
  let c1_i32_69 : BitVec 32 := 1#32
  let v318 : BitVec 32 := Scalar.addi v317 c1_i32_69
  let c128_i32_70 : BitVec 32 := 128#32
  let v319 : BitVec 32 := Scalar.muli v318 c128_i32_70
  v319
def k0_mult5 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_86 : BitVec 32 := 4#32
  let v538 : BitVec 32 := Scalar.muli v87 c4_i32_86
  let c2_i32_87 : BitVec 32 := 2#32
  let v539 : BitVec 32 := Scalar.addi v538 c2_i32_87
  let c128_i32_88 : BitVec 32 := 128#32
  let v540 : BitVec 32 := Scalar.muli v539 c128_i32_88
  v540
def k0_mult6 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32 : BitVec 32 := 2#32
  let v86 : BitVec 32 := Scalar.muli arg17 c2_i32
  let c0_i32_48 : BitVec 32 := 0#32
  let v87 : BitVec 32 := Scalar.addi v86 c0_i32_48
  let c4_i32_104 : BitVec 32 := 4#32
  let v759 : BitVec 32 := Scalar.muli v87 c4_i32_104
  let c3_i32 : BitVec 32 := 3#32
  let v760 : BitVec 32 := Scalar.addi v759 c3_i32
  let c128_i32_105 : BitVec 32 := 128#32
  let v761 : BitVec 32 := Scalar.muli v760 c128_i32_105
  v761
def k0_mult7 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c8_i32_124 : BitVec 32 := 8#32
  let v986 : BitVec 32 := Scalar.muli v985 c8_i32_124
  v986
def k0_mult8 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_128 : BitVec 32 := 4#32
  let v994 : BitVec 32 := Scalar.muli v985 c4_i32_128
  let c0_i32_129 : BitVec 32 := 0#32
  let v995 : BitVec 32 := Scalar.addi v994 c0_i32_129
  let c128_i32_130 : BitVec 32 := 128#32
  let v996 : BitVec 32 := Scalar.muli v995 c128_i32_130
  v996
def k0_mult9 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_146 : BitVec 32 := 4#32
  let v1215 : BitVec 32 := Scalar.muli v985 c4_i32_146
  let c1_i32_147 : BitVec 32 := 1#32
  let v1216 : BitVec 32 := Scalar.addi v1215 c1_i32_147
  let c128_i32_148 : BitVec 32 := 128#32
  let v1217 : BitVec 32 := Scalar.muli v1216 c128_i32_148
  v1217
def k0_mult10 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_164 : BitVec 32 := 4#32
  let v1436 : BitVec 32 := Scalar.muli v985 c4_i32_164
  let c2_i32_165 : BitVec 32 := 2#32
  let v1437 : BitVec 32 := Scalar.addi v1436 c2_i32_165
  let c128_i32_166 : BitVec 32 := 128#32
  let v1438 : BitVec 32 := Scalar.muli v1437 c128_i32_166
  v1438
def k0_mult11 (k0_t2 : Fin k0_t2_loop.trips) : BitVec 32 :=
  let c0_i32_18 : BitVec 32 := 0#32
  let c1_i32 : BitVec 32 := 1#32
  let arg17 : BitVec 32 := Scf.iv c0_i32_18 c1_i32 k0_t2
  let c2_i32_122 : BitVec 32 := 2#32
  let v984 : BitVec 32 := Scalar.muli arg17 c2_i32_122
  let c1_i32_123 : BitVec 32 := 1#32
  let v985 : BitVec 32 := Scalar.addi v984 c1_i32_123
  let c4_i32_182 : BitVec 32 := 4#32
  let v1657 : BitVec 32 := Scalar.muli v985 c4_i32_182
  let c3_i32_183 : BitVec 32 := 3#32
  let v1658 : BitVec 32 := Scalar.addi v1657 c3_i32_183
  let c128_i32_184 : BitVec 32 := 128#32
  let v1659 : BitVec 32 := Scalar.muli v1658 c128_i32_184
  v1659
def cc0_transform_0 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_3 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_4 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let v2 : BitVec 32 := Scalar.divsi v1 c14_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c14_i32 c0_i32_2
  let v9 : BitVec 32 := Scalar.extui v8
  let c0_i32_3 : BitVec 32 := 0#32
  let v10 : BitVec 1 := Scalar.cmpi .slt c14_i32 c0_i32_3
  let v11 : BitVec 32 := Scalar.extui v10
  let v12 : BitVec 32 := Scalar.subi v9 v11
  let v13 : BitVec 1 := Scalar.cmpi .ne v7 v12
  let v14 : BitVec 32 := Scalar.remsi v1 c14_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c14_i32_8 : BitVec 32 := 14#32
  let c0_i32_9 : BitVec 32 := 0#32
  let v21 : BitVec 1 := Scalar.cmpi .eq c14_i32_8 c0_i32_9
  let c1_i32_10 : BitVec 32 := 1#32
  let v22 : BitVec 32 := Scalar.select v21 c1_i32_10 c14_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_9 (i : grid0.Coords) : Fin 3 → Nat :=
  let arg0 : BitVec 32 := BitVec.ofNat 32 (i 0).val
  let c55_i32 : BitVec 32 := 55#32
  let v0 : BitVec 32 := Scalar.minsi arg0 c55_i32
  let c14_i32 : BitVec 32 := 14#32
  let v1 : BitVec 32 := Scalar.divsi v0 c14_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c14_i32 c0_i32_1
  let v8 : BitVec 32 := Scalar.extui v7
  let c0_i32_2 : BitVec 32 := 0#32
  let v9 : BitVec 1 := Scalar.cmpi .slt c14_i32 c0_i32_2
  let v10 : BitVec 32 := Scalar.extui v9
  let v11 : BitVec 32 := Scalar.subi v8 v10
  let v12 : BitVec 1 := Scalar.cmpi .ne v6 v11
  let v13 : BitVec 32 := Scalar.remsi v0 c14_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c55_i32_4 : BitVec 32 := 55#32
  let v18 : BitVec 32 := Scalar.minsi arg0 c55_i32_4
  let c14_i32_5 : BitVec 32 := 14#32
  let c0_i32_6 : BitVec 32 := 0#32
  let v19 : BitVec 1 := Scalar.cmpi .eq c14_i32_5 c0_i32_6
  let c1_i32_7 : BitVec 32 := 1#32
  let v20 : BitVec 32 := Scalar.select v19 c1_i32_7 c14_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

abbrev stage0_0 : Fin 2 → Memref sig .tc .vmem S1x1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x14336x2048 : Shape := ⟨3, ![4, 14336, 2048]⟩
abbrev S4x14336x32 : Shape := ⟨3, ![4, 14336, 32]⟩
abbrev S4x24x4096 : Shape := ⟨3, ![4, 24, 4096]⟩
abbrev S4x14336x24 : Shape := ⟨3, ![4, 14336, 24]⟩
abbrev S4x14336 : Shape := ⟨2, ![4, 14336]⟩
abbrev S4x14336x32x64 : Shape := ⟨4, ![4, 14336, 32, 64]⟩
abbrev S4x14336x32x1 : Shape := ⟨4, ![4, 14336, 32, 1]⟩
abbrev S_ : Shape := ⟨0, ![]⟩
abbrev S4x24x32x64x2 : Shape := ⟨5, ![4, 24, 32, 64, 2]⟩
abbrev S4x24x32x64x1 : Shape := ⟨5, ![4, 24, 32, 64, 1]⟩
abbrev S4x24x32x64 : Shape := ⟨4, ![4, 24, 32, 64]⟩
abbrev S4x14336x1x1 : Shape := ⟨4, ![4, 14336, 1, 1]⟩
abbrev S4x3584x128 : Shape := ⟨3, ![4, 3584, 128]⟩

abbrev nBuf : Space → Nat
  | .hbm => 130
  | .vmem => 0
  | .smem => 0
  | _ => 0

abbrev hbmTy0_0 (i : Nat) : BufTy := match i % 128 with
  | 0 => ⟨S4x14336x2048, .i8⟩
  | 1 => ⟨S4x14336x32, .bf16⟩
  | 2 => ⟨S4x24x4096, .bf16⟩
  | 3 => ⟨S4x14336x24, .bf16⟩
  | 4 => ⟨S4x14336, .f32⟩
  | 5 => ⟨S4x14336x32x64, .i8⟩
  | 6 => ⟨S4x14336x32x1, .bf16⟩
  | 7 => ⟨S4x14336x32x64, .i32⟩
  | 8 => ⟨S_, .i32⟩
  | 9 => ⟨S4x14336x32x64, .i32⟩
  | 10 => ⟨S4x14336x32x64, .i32⟩
  | 11 => ⟨S_, .i32⟩
  | 12 => ⟨S4x14336x32x64, .i32⟩
  | 13 => ⟨S4x14336x32x64, .i32⟩
  | 14 => ⟨S_, .i32⟩
  | 15 => ⟨S4x14336x32x64, .i32⟩
  | 16 => ⟨S4x14336x32x64, .i1⟩
  | 17 => ⟨S_, .i32⟩
  | 18 => ⟨S4x14336x32x64, .i32⟩
  | 19 => ⟨S4x14336x32x64, .i32⟩
  | 20 => ⟨S4x14336x32x64, .i32⟩
  | 21 => ⟨S4x14336x32x64, .bf16⟩
  | 22 => ⟨S4x14336x32x64, .bf16⟩
  | 23 => ⟨S4x14336x32x64, .bf16⟩
  | 24 => ⟨S4x14336x32x64, .i32⟩
  | 25 => ⟨S_, .i32⟩
  | 26 => ⟨S4x14336x32x64, .i32⟩
  | 27 => ⟨S4x14336x32x64, .i32⟩
  | 28 => ⟨S_, .i32⟩
  | 29 => ⟨S4x14336x32x64, .i32⟩
  | 30 => ⟨S4x14336x32x64, .i32⟩
  | 31 => ⟨S_, .i32⟩
  | 32 => ⟨S4x14336x32x64, .i32⟩
  | 33 => ⟨S4x14336x32x64, .i1⟩
  | 34 => ⟨S_, .i32⟩
  | 35 => ⟨S4x14336x32x64, .i32⟩
  | 36 => ⟨S4x14336x32x64, .i32⟩
  | 37 => ⟨S4x14336x32x64, .i32⟩
  | 38 => ⟨S4x14336x32x64, .bf16⟩
  | 39 => ⟨S4x14336x32x64, .bf16⟩
  | 40 => ⟨S4x14336x32x64, .bf16⟩
  | 41 => ⟨S4x24x32x64x2, .bf16⟩
  | 42 => ⟨S4x24x32x64x1, .bf16⟩
  | 43 => ⟨S4x24x32x64, .bf16⟩
  | 44 => ⟨S4x14336x32x64, .f32⟩
  | 45 => ⟨S4x24x32x64x1, .bf16⟩
  | 46 => ⟨S4x24x32x64, .bf16⟩
  | 47 => ⟨S4x14336x32x64, .f32⟩
  | 48 => ⟨S_, .f32⟩
  | 49 => ⟨S_, .f32⟩
  | 50 => ⟨S_, .f32⟩
  | 51 => ⟨S4x14336x32x64, .f32⟩
  | 52 => ⟨S4x14336x32x64, .f32⟩
  | 53 => ⟨S4x14336x32x64, .f32⟩
  | 54 => ⟨S4x14336x32x64, .f32⟩
  | 55 => ⟨S4x14336x32x64, .f32⟩
  | 56 => ⟨S4x14336x32x64, .f32⟩
  | 57 => ⟨S4x14336x32x64, .f32⟩
  | 58 => ⟨S4x14336x32x64, .f32⟩
  | 59 => ⟨S4x14336x32x64, .f32⟩
  | 60 => ⟨S_, .f32⟩
  | 61 => ⟨S4x14336, .f32⟩
  | 62 => ⟨S4x14336x32x64, .f32⟩
  | 63 => ⟨S_, .f32⟩
  | 64 => ⟨S4x14336, .f32⟩
  | 65 => ⟨S4x14336, .f32⟩
  | 66 => ⟨S4x14336, .f32⟩
  | 67 => ⟨S4x14336, .f32⟩
  | 68 => ⟨S4x14336x1x1, .f32⟩
  | 69 => ⟨S4x14336x32x64, .f32⟩
  | 70 => ⟨S4x14336x32x64, .f32⟩
  | 71 => ⟨S4x14336x32x64, .f32⟩
  | 72 => ⟨S4x14336x32x64, .f32⟩
  | 73 => ⟨S4x14336x32x64, .f32⟩
  | 74 => ⟨S_, .f32⟩
  | 75 => ⟨S4x14336x32, .f32⟩
  | 76 => ⟨S4x14336x32x64, .f32⟩
  | 77 => ⟨S_, .f32⟩
  | 78 => ⟨S4x14336x32, .f32⟩
  | 79 => ⟨S4x14336x32, .f32⟩
  | 80 => ⟨S_, .f32⟩
  | 81 => ⟨S4x14336x32, .f32⟩
  | 82 => ⟨S4x14336x32, .i1⟩
  | 83 => ⟨S_, .f32⟩
  | 84 => ⟨S4x14336x32, .f32⟩
  | 85 => ⟨S4x14336x32, .f32⟩
  | 86 => ⟨S_, .f32⟩
  | 87 => ⟨S_, .f32⟩
  | 88 => ⟨S4x14336x32, .f32⟩
  | 89 => ⟨S4x14336x32, .f32⟩
  | 90 => ⟨S4x14336x32, .bf16⟩
  | 91 => ⟨S4x14336x32, .f32⟩
  | 92 => ⟨S4x14336x32x1, .f32⟩
  | 93 => ⟨S4x14336x32x64, .f32⟩
  | 94 => ⟨S4x14336x32x64, .f32⟩
  | 95 => ⟨S4x14336x32x64, .f32⟩
  | 96 => ⟨S_, .i32⟩
  | 97 => ⟨S_, .i32⟩
  | 98 => ⟨S_, .f32⟩
  | 99 => ⟨S4x14336x32x64, .f32⟩
  | 100 => ⟨S4x14336x32x64, .f32⟩
  | 101 => ⟨S_, .f32⟩
  | 102 => ⟨S4x14336x32x64, .f32⟩
  | 103 => ⟨S4x14336x32x64, .f32⟩
  | 104 => ⟨S4x14336x32x64, .i32⟩
  | 105 => ⟨S4x14336x32x64, .f32⟩
  | 106 => ⟨S4x14336x32x64, .f32⟩
  | 107 => ⟨S4x14336x32x64, .f32⟩
  | 108 => ⟨S_, .i32⟩
  | 109 => ⟨S_, .i32⟩
  | 110 => ⟨S_, .f32⟩
  | 111 => ⟨S4x14336x32x64, .f32⟩
  | 112 => ⟨S4x14336x32x64, .f32⟩
  | 113 => ⟨S_, .f32⟩
  | 114 => ⟨S4x14336x32x64, .f32⟩
  | 115 => ⟨S4x14336x32x64, .f32⟩
  | 116 => ⟨S4x14336x32x64, .i32⟩
  | 117 => ⟨S_, .i32⟩
  | 118 => ⟨S4x14336x32x64, .i32⟩
  | 119 => ⟨S4x14336x32x64, .i32⟩
  | 120 => ⟨S_, .i32⟩
  | 121 => ⟨S4x14336x32x64, .i32⟩
  | 122 => ⟨S4x14336x32x64, .i32⟩
  | 123 => ⟨S_, .i32⟩
  | 124 => ⟨S4x14336x32x64, .i32⟩
  | 125 => ⟨S4x14336x32x64, .i32⟩
  | 126 => ⟨S4x14336x32x64, .i32⟩
  | 127 => ⟨S4x14336x32x64, .i8⟩
  | _ => ⟨S4x14336x2048, .i8⟩

abbrev hbmTy0_1 (i : Nat) : BufTy := match i % 128 with
  | 0 => ⟨S4x14336x2048, .i8⟩
  | 1 => ⟨S4x3584x128, .bf16⟩
  | _ => ⟨S4x14336x2048, .i8⟩

abbrev hbmTy (i : Nat) : BufTy := match i / 128 with
  | 0 => hbmTy0_0 i
  | 1 => hbmTy0_1 i
  | _ => ⟨S4x14336x2048, .i8⟩

abbrev bufTy : (tb : Table) → Fin (tcTables nBuf tb) → BufTy
  | .hbm, ⟨i, _⟩ => hbmTy i
  | _, _ => ⟨S4x14336x2048, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_15 : Ref sig .tc := ⟨.hbm, 96, rfl⟩
abbrev main_c_16 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_c_18 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_v77 : Ref sig .tc := ⟨.hbm, 115, rfl⟩
abbrev main_v78 : Ref sig .tc := ⟨.hbm, 116, rfl⟩
abbrev main_c_19 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_v81 : Ref sig .tc := ⟨.hbm, 121, rfl⟩
abbrev main_v82 : Ref sig .tc := ⟨.hbm, 122, rfl⟩
abbrev main_c_21 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== Proof.Kernel.Run.lean ====
/- One run of the kernel's body at a symbolic grid point, at any float instance: the contents its stores leave
   in the two output blocks and in the six scratch buffers. The first grid point (which clears two of the
   scratch buffers) and the later ones are two cases. -/
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 4000000 in
/-- What the body leaves in each written buffer, at the first grid point: the scratch is cleared first, together with the proof that the body, given every
    buffer at contents `f·`, runs to a continuation holding the inputs as they were and each written buffer at `g·`. -/
def runA (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x256 .i32) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty), { g16 : BufTy.Contents (Elt F) arg16.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16)) -∗ K ⟨⟩))
          ⊢ wp frame (wpE (defs₀ (F := F)) Variants.none c none) E (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_dora_merge_eq_skeleton]; unfold cc0_dora_merge_skel
    iintro ⟨H1, H2, H3, H4, H5, H6, H7, H8, H9, H10, H11, H12, H13, H14, H15, H16, Hk⟩
    sl_exec (disch := first | sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- What the body leaves in each written buffer, at a later grid point, together with the proof that the body, given every
    buffer at contents `f·`, runs to a continuation holding the inputs as they were and each written buffer at `g·`. -/
def runB (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x256 .i32) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty), { g16 : BufTy.Contents (Elt F) arg16.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16)) -∗ K ⟨⟩))
          ⊢ wp frame (wpE (defs₀ (F := F)) Variants.none c none) E (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_dora_merge_eq_skeleton]; unfold cc0_dora_merge_skel
    iintro ⟨H1, H2, H3, H4, H5, H6, H7, H8, H9, H10, H11, H12, H13, H14, H15, H16, Hk⟩
    sl_exec (disch := first | sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Hand

end
-- ==== Proof.Kernel.Region.lean ====
/- The kernel's region runs: at every grid point the body takes whatever its buffers hold and gives them back, so
   the launch ends with every argument array unchanged and every semaphore at zero. -/
module

public import proofs.«01_k».proof.Proof.Kernel.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [BitOps F]

local notation "𝕄" => MT nD τ sig Unit (Elt F) ℕ (UR sig nD τ) ℕ

set_option maxHeartbeats 4000000 in
/-- The body, given its sixteen buffers at any contents, runs to a continuation that gets all of them back at some
    contents. -/
theorem body_any (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x256 .i32) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (x1 : Vec F S1x1024x2048 .i8) (x2 : Vec F S1x256x128 .bf16) (x3 : Vec F S1x256x128 .bf16) (x4 : Vec F S1x4x256 .f32) (x5 : Vec F S1x16384x128 .bf16) (x6 : Vec F S128x128 .bf16) (x7 : Vec F S256x128 .bf16) (x8 : Vec F S128x256 .bf16) (x9 : Vec F S1x1024x2048 .i8) (x10 : Vec F S1x256x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d : Vec F S16384x256 .f32, owns (c : Thread nD τ) arg11 fullShare d) ∗ (∃ d : Vec F S256x256 .f32, owns (c : Thread nD τ) arg12 fullShare d) ∗ (∃ d : Vec F S256x256 .i32, owns (c : Thread nD τ) arg13 fullShare d) ∗ (∃ d : Vec F S256x256 .f32, owns (c : Thread nD τ) arg14 fullShare d) ∗ (∃ d : Vec F S8x256 .f32, owns (c : Thread nD τ) arg15 fullShare d) ∗ (∃ d : Vec F S128x256 .bf16, owns (c : Thread nD τ) arg16 fullShare d) ∗ (iprop((∃ d : Vec F S1x1024x2048 .i8, owns (c : Thread nD τ) arg1 fullShare d) ∗ (∃ d : Vec F S1x256x128 .bf16, owns (c : Thread nD τ) arg2 fullShare d) ∗ (∃ d : Vec F S1x256x128 .bf16, owns (c : Thread nD τ) arg3 fullShare d) ∗ (∃ d : Vec F S1x4x256 .f32, owns (c : Thread nD τ) arg4 fullShare d) ∗ (∃ d : Vec F S1x16384x128 .bf16, owns (c : Thread nD τ) arg5 fullShare d) ∗ (∃ d : Vec F S128x128 .bf16, owns (c : Thread nD τ) arg6 fullShare d) ∗ (∃ d : Vec F S256x128 .bf16, owns (c : Thread nD τ) arg7 fullShare d) ∗ (∃ d : Vec F S128x256 .bf16, owns (c : Thread nD τ) arg8 fullShare d) ∗ (∃ d : Vec F S1x1024x2048 .i8, owns (c : Thread nD τ) arg9 fullShare d) ∗ (∃ d : Vec F S1x256x128 .bf16, owns (c : Thread nD τ) arg10 fullShare d) ∗ (∃ d : Vec F S16384x256 .f32, owns (c : Thread nD τ) arg11 fullShare d) ∗ (∃ d : Vec F S256x256 .f32, owns (c : Thread nD τ) arg12 fullShare d) ∗ (∃ d : Vec F S256x256 .i32, owns (c : Thread nD τ) arg13 fullShare d) ∗ (∃ d : Vec F S256x256 .f32, owns (c : Thread nD τ) arg14 fullShare d) ∗ (∃ d : Vec F S8x256 .f32, owns (c : Thread nD τ) arg15 fullShare d) ∗ (∃ d : Vec F S128x256 .bf16, owns (c : Thread nD τ) arg16 fullShare d)) -∗ K ⟨⟩))
      ⊢ wp frame (wpE (defs₀ (F := F)) Variants.none c none) Set.univ (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, Hk⟩
  by_cases hc : k0_cond1 i = 1#1
  ·
    iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.2.2.2.2.2 Set.univ K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl
  ·
    iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.2.2.2.2.2 Set.univ K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl

variable (m : (ℓ : Loc nD τ sig) → Buf (Elt F) ℓ) (ρ : Dev nD → PrngReg)

/-- What a launch hands the region: the six scratch buffers at anything, and the generator register. -/
theorem PhiA0_eq (c : Dev nD) :
    (ΦA spec0 c : sProp 𝕄) = iprop(((∃ d : Vec F S16384x256 .f32, owns (c : Thread nD τ) (Memref.whole cc0_scratch0) fullShare d) ∗ (∃ d : Vec F S256x256 .f32, owns (c : Thread nD τ) (Memref.whole cc0_scratch1) fullShare d) ∗ (∃ d : Vec F S256x256 .i32, owns (c : Thread nD τ) (Memref.whole cc0_scratch2) fullShare d) ∗ (∃ d : Vec F S256x256 .f32, owns (c : Thread nD τ) (Memref.whole cc0_scratch3) fullShare d) ∗ (∃ d : Vec F S8x256 .f32, owns (c : Thread nD τ) (Memref.whole cc0_scratch4) fullShare d) ∗ (∃ d : Vec F S128x256 .bf16, owns (c : Thread nD τ) (Memref.whole cc0_scratch5) fullShare d)) ∗ ∃ r, prngReg c r) := by
  unfold ΦA; rw [scopedRest0_eq]; simp only [owns_whole]; try rfl

/-- Proof data that say nothing of what the body leaves: any contents, at every window and point. -/
def anyDat (c : Dev nD) : RDat τ (Elt F) Unit ℕ (UR sig nD τ) ℕ cfg0 c where
  A := fun w => V m c (arrRef spec0 w)
  after := fun _ _ _ _ => True
  Φ := fun _ => ΦA spec0 c
  q := fun _ => fullShare
  owed := fun _ => 0

/-- The pipeline's body at point `t`, on its current staging buffers. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation of the proof data that say nothing. -/
theorem anyDat_body (c : Dev nD) : (anyDat m c).BodyObligation (defs₀ (F := F)) Variants.none () Set.univ := by
  intro t Y _
  rw [bigSep_W0, bigSep_W0, defs₀_row]
  rw [show (anyDat m c).owesAt () t.succ = (anyDat m c).owesAt () t.castSucc from rfl]
  rw [show (anyDat m c).Φ t.castSucc = ΦA spec0 c from rfl, show (anyDat m c).Φ t.succ = ΦA spec0 c from rfl, PhiA0_eq]
  iintro ⟨⟨⟨S0, S1, S2, S3, S4, S5⟩, Hg⟩, Ho, H0, H1, H2, H3, H4, H5, H6, H7, H8, H9⟩
  unfold bodyAt0
  iapply (body_any c (grid0.coords t) _ _ _ _ _ _ _ _ _ _ _ _ _ _ _ _ _ _ _ _ _ _ _ _ _ _ _ _ _ _ _ _  _ _ _ _ _ _ _ _ _ _  _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]
  · iexists e0; isplitr; · ipureintro; trivial
    iexact H0
  isplitl [H1]
  · iexists e1; isplitr; · ipureintro; trivial
    iexact H1
  isplitl [H2]
  · iexists e2; isplitr; · ipureintro; trivial
    iexact H2
  isplitl [H3]
  · iexists e3; isplitr; · ipureintro; trivial
    iexact H3
  isplitl [H4]
  · iexists e4; isplitr; · ipureintro; trivial
    iexact H4
  isplitl [H5]
  · iexists e5; isplitr; · ipureintro; trivial
    iexact H5
  isplitl [H6]
  · iexists e6; isplitr; · ipureintro; trivial
    iexact H6
  isplitl [H7]
  · iexists e7; isplitr; · ipureintro; trivial
    iexact H7
  isplitl [H8]
  · iexists e8; isplitr; · ipureintro; trivial
    iexact H8
  iexists e9; isplitr; · ipureintro; trivial
  iexact H9

set_option backward.isDefEq.respectTransparency.types false in
set_option maxHeartbeats 1600000 in
/-- The launch: every array of the pipeline at some contents, every other unscoped buffer as the host lines before
    the region left it, every semaphore at zero. -/
theorem run_any : θ_run defs (onTc (τ := τ) (main (F := F))) (s₀ m ρ) (fun r => RDat.FramePost cfg0 (anyDat m) (V m) r ∧ r.2.sem = fun _ => 0) :=
  RDat.θ_run_frame (Q' := _) cfgs (0 : Fin 1) launch0 defs₀ Variants.none (anyDat m) m ρ main
    (hbody := anyDat_body m) (hshare := fun c w => by unfold RDat.share; split <;> rfl) (howed := fun _ _ => rfl) (V := V m)
    (hmain := hmain m Variants.none) (hA := fun _ _ => rfl) (hΦ := fun _ _ => rfl) (hQ' := fun _ h => h)

/-- The five argument arrays end as they were launched, and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(RDat.FramePost.arr_in h.1 c 0 rfl).trans (V_main_arg0 m c),
      ((h.1 c).2 main_arg1 (mem_restRefs_of main_arg1 (by decide) (by decide))).trans (V_main_arg1 m c),
      ((h.1 c).2 main_arg2 (mem_restRefs_of main_arg2 (by decide) (by decide))).trans (V_main_arg2 m c),
      ((h.1 c).2 main_arg3 (mem_restRefs_of main_arg3 (by decide) (by decide))).trans (V_main_arg3 m c),
      ((h.1 c).2 main_arg4 (mem_restRefs_of main_arg4 (by decide) (by decide))).trans (V_main_arg4 m c)⟩, h.2⟩) (run_any m ρ)

end Cert.Kernel.Hand

end
-- ==== Proof.KernelIdeal.Run.lean ====
/- One run of the kernel's body at a symbolic grid point, at any float instance: the contents its stores leave
   in the two output blocks and in the six scratch buffers. The first grid point (which clears two of the
   scratch buffers) and the later ones are two cases. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- What the body leaves in each written buffer, at the first grid point: the scratch is cleared first, together with the proof that the body, given every
    buffer at contents `f·`, runs to a continuation holding the inputs as they were and each written buffer at `g·`. -/
def runA (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty), { g16 : BufTy.Contents (Elt F) arg16.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16)) -∗ K ⟨⟩))
          ⊢ wp frame (wpE (defs₀ (F := F)) Variants.none c none) E (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_dora_merge_eq_skeleton]; unfold cc0_dora_merge_skel
    iintro ⟨H1, H2, H3, H4, H5, H6, H7, H8, H9, H10, H11, H12, H13, H14, H15, H16, Hk⟩
    sl_exec (disch := first | sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- What the body leaves in each written buffer, at a later grid point, together with the proof that the body, given every
    buffer at contents `f·`, runs to a continuation holding the inputs as they were and each written buffer at `g·`. -/
def runB (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty), { g16 : BufTy.Contents (Elt F) arg16.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16)) -∗ K ⟨⟩))
          ⊢ wp frame (wpE (defs₀ (F := F)) Variants.none c none) E (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_dora_merge_eq_skeleton]; unfold cc0_dora_merge_skel
    iintro ⟨H1, H2, H3, H4, H5, H6, H7, H8, H9, H10, H11, H12, H13, H14, H15, H16, Hk⟩
    sl_exec (disch := first | sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Hand

end
-- ==== Proof.KernelIdeal.Region.lean ====
/- The kernel's region runs: at every grid point the body takes whatever its buffers hold and gives them back, so
   the launch ends with every argument array unchanged and every semaphore at zero. -/
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

set_option maxHeartbeats 4000000 in
/-- The body, given its sixteen buffers at any contents, runs to a continuation that gets all of them back at some
    contents. -/
theorem body_any (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (x1 : Vec F S1x1024x2048 .i8) (x2 : Vec F S1x256x128 .bf16) (x3 : Vec F S1x256x128 .bf16) (x4 : Vec F S1x4x256 .f32) (x5 : Vec F S1x16384x128 .bf16) (x6 : Vec F S128x128 .bf16) (x7 : Vec F S256x128 .bf16) (x8 : Vec F S128x256 .bf16) (x9 : Vec F S1x1024x2048 .i8) (x10 : Vec F S1x256x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d : Vec F S16384x256 .f32, owns (c : Thread nD τ) arg11 fullShare d) ∗ (∃ d : Vec F S256x256 .f32, owns (c : Thread nD τ) arg12 fullShare d) ∗ (∃ d : Vec F S256x2x256 .bf16, owns (c : Thread nD τ) arg13 fullShare d) ∗ (∃ d : Vec F S256x256 .f32, owns (c : Thread nD τ) arg14 fullShare d) ∗ (∃ d : Vec F S8x256 .f32, owns (c : Thread nD τ) arg15 fullShare d) ∗ (∃ d : Vec F S128x256 .bf16, owns (c : Thread nD τ) arg16 fullShare d) ∗ (iprop((∃ d : Vec F S1x1024x2048 .i8, owns (c : Thread nD τ) arg1 fullShare d) ∗ (∃ d : Vec F S1x256x128 .bf16, owns (c : Thread nD τ) arg2 fullShare d) ∗ (∃ d : Vec F S1x256x128 .bf16, owns (c : Thread nD τ) arg3 fullShare d) ∗ (∃ d : Vec F S1x4x256 .f32, owns (c : Thread nD τ) arg4 fullShare d) ∗ (∃ d : Vec F S1x16384x128 .bf16, owns (c : Thread nD τ) arg5 fullShare d) ∗ (∃ d : Vec F S128x128 .bf16, owns (c : Thread nD τ) arg6 fullShare d) ∗ (∃ d : Vec F S256x128 .bf16, owns (c : Thread nD τ) arg7 fullShare d) ∗ (∃ d : Vec F S128x256 .bf16, owns (c : Thread nD τ) arg8 fullShare d) ∗ (∃ d : Vec F S1x1024x2048 .i8, owns (c : Thread nD τ) arg9 fullShare d) ∗ (∃ d : Vec F S1x256x128 .bf16, owns (c : Thread nD τ) arg10 fullShare d) ∗ (∃ d : Vec F S16384x256 .f32, owns (c : Thread nD τ) arg11 fullShare d) ∗ (∃ d : Vec F S256x256 .f32, owns (c : Thread nD τ) arg12 fullShare d) ∗ (∃ d : Vec F S256x2x256 .bf16, owns (c : Thread nD τ) arg13 fullShare d) ∗ (∃ d : Vec F S256x256 .f32, owns (c : Thread nD τ) arg14 fullShare d) ∗ (∃ d : Vec F S8x256 .f32, owns (c : Thread nD τ) arg15 fullShare d) ∗ (∃ d : Vec F S128x256 .bf16, owns (c : Thread nD τ) arg16 fullShare d)) -∗ K ⟨⟩))
      ⊢ wp frame (wpE (defs₀ (F := F)) Variants.none c none) Set.univ (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, Hk⟩
  by_cases hc : k0_cond1 i = 1#1
  ·
    iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.2.2.2.2.2 Set.univ K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl
  ·
    iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.2.2.2.2.2 Set.univ K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H1, H2, H3, H4, H5, H6, H7, H8, H9, H10, H11, H12, H13, H14, H15, H16⟩
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    iexists _; iexists _; isplitr; swap; · iexact H16
    ipureintro; rfl

variable (m : (ℓ : Loc nD τ sig) → Buf (Elt F) ℓ) (ρ : Dev nD → PrngReg)

/-- What a launch hands the region: the six scratch buffers at anything, and the generator register. -/
theorem PhiA0_eq (c : Dev nD) :
    (ΦA spec0 c : sProp 𝕄) = iprop(((∃ d : Vec F S16384x256 .f32, owns (c : Thread nD τ) (Memref.whole cc0_scratch0) fullShare d) ∗ (∃ d : Vec F S256x256 .f32, owns (c : Thread nD τ) (Memref.whole cc0_scratch1) fullShare d) ∗ (∃ d : Vec F S256x2x256 .bf16, owns (c : Thread nD τ) (Memref.whole cc0_scratch2) fullShare d) ∗ (∃ d : Vec F S256x256 .f32, owns (c : Thread nD τ) (Memref.whole cc0_scratch3) fullShare d) ∗ (∃ d : Vec F S8x256 .f32, owns (c : Thread nD τ) (Memref.whole cc0_scratch4) fullShare d) ∗ (∃ d : Vec F S128x256 .bf16, owns (c : Thread nD τ) (Memref.whole cc0_scratch5) fullShare d)) ∗ ∃ r, prngReg c r) := by
  unfold ΦA; rw [scopedRest0_eq]; simp only [owns_whole]; try rfl

/-- Proof data that say nothing of what the body leaves: any contents, at every window and point. -/
def anyDat (c : Dev nD) : RDat τ (Elt F) Unit ℕ (UR sig nD τ) ℕ cfg0 c where
  A := fun w => V m c (arrRef spec0 w)
  after := fun _ _ _ _ => True
  Φ := fun _ => ΦA spec0 c
  q := fun _ => fullShare
  owed := fun _ => 0

/-- The pipeline's body at point `t`, on its current staging buffers. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation of the proof data that say nothing. -/
theorem anyDat_body (c : Dev nD) : (anyDat m c).BodyObligation (defs₀ (F := F)) Variants.none () Set.univ := by
  intro t Y _
  rw [bigSep_W0, bigSep_W0, defs₀_row]
  rw [show (anyDat m c).owesAt () t.succ = (anyDat m c).owesAt () t.castSucc from rfl]
  rw [show (anyDat m c).Φ t.castSucc = ΦA spec0 c from rfl, show (anyDat m c).Φ t.succ = ΦA spec0 c from rfl, PhiA0_eq]
  iintro ⟨⟨⟨S0, S1, S2, S3, S4, S5⟩, Hg⟩, Ho, H0, H1, H2, H3, H4, H5, H6, H7, H8, H9⟩
  unfold bodyAt0
  iapply (body_any c (grid0.coords t) _ _ _ _ _ _ _ _ _ _ _ _ _ _ _ _ _ _ _ _ _ _ _ _ _ _ _ _ _ _ _ _  _ _ _ _ _ _ _ _ _ _  _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]
  · iexists e0; isplitr; · ipureintro; trivial
    iexact H0
  isplitl [H1]
  · iexists e1; isplitr; · ipureintro; trivial
    iexact H1
  isplitl [H2]
  · iexists e2; isplitr; · ipureintro; trivial
    iexact H2
  isplitl [H3]
  · iexists e3; isplitr; · ipureintro; trivial
    iexact H3
  isplitl [H4]
  · iexists e4; isplitr; · ipureintro; trivial
    iexact H4
  isplitl [H5]
  · iexists e5; isplitr; · ipureintro; trivial
    iexact H5
  isplitl [H6]
  · iexists e6; isplitr; · ipureintro; trivial
    iexact H6
  isplitl [H7]
  · iexists e7; isplitr; · ipureintro; trivial
    iexact H7
  isplitl [H8]
  · iexists e8; isplitr; · ipureintro; trivial
    iexact H8
  iexists e9; isplitr; · ipureintro; trivial
  iexact H9

set_option backward.isDefEq.respectTransparency.types false in
set_option maxHeartbeats 1600000 in
/-- The launch: every array of the pipeline at some contents, every other unscoped buffer as the host lines before
    the region left it, every semaphore at zero. -/
theorem run_any : θ_run defs (onTc (τ := τ) (main (F := F))) (s₀ m ρ) (fun r => RDat.FramePost cfg0 (anyDat m) (V m) r ∧ r.2.sem = fun _ => 0) :=
  RDat.θ_run_frame (Q' := _) cfgs (0 : Fin 1) launch0 defs₀ Variants.none (anyDat m) m ρ main
    (hbody := anyDat_body m) (hshare := fun c w => by unfold RDat.share; split <;> rfl) (howed := fun _ _ => rfl) (V := V m)
    (hmain := hmain m Variants.none) (hA := fun _ _ => rfl) (hΦ := fun _ _ => rfl) (hQ' := fun _ h => h)

/-- The five argument arrays end as they were launched, and every semaphore ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(RDat.FramePost.arr_in h.1 c 0 rfl).trans (V_main_arg0 m c),
      ((h.1 c).2 main_arg1 (mem_restRefs_of main_arg1 (by decide) (by decide))).trans (V_main_arg1 m c),
      ((h.1 c).2 main_arg2 (mem_restRefs_of main_arg2 (by decide) (by decide))).trans (V_main_arg2 m c),
      ((h.1 c).2 main_arg3 (mem_restRefs_of main_arg3 (by decide) (by decide))).trans (V_main_arg3 m c),
      ((h.1 c).2 main_arg4 (mem_restRefs_of main_arg4 (by decide) (by decide))).trans (V_main_arg4 m c)⟩, h.2⟩) (run_any m ρ)

end Cert.KernelIdeal.Hand

end
-- ==== Proof.KernelIdeal.Tile.lean ====
module
public import proofs.«01_k».proof.Proof.KernelIdeal.Region
public import Idealize.ShloMosaic.Lib.Pointwise
public import Idealize.ShloMosaic.Lib.BitcastFour
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem

section Tile

variable {F : FTy → Type} [FloatOps F]

/-- One weight tile's dequantised rows: the eight nibbles of each of the 16 word rows `w`, lowest first, sign-extended and scaled by
    the 16 scale rows `sc`, which repeat every 16 rows. -/
def deqTile (w : IVec S16x256 32) (sc : FVec F S16x256 .bf16) : FVec F S128x256 .bf16 :=
  shapeCast S128x256
    (mulf
      (shapeCast S8x16x256
        (truncf .bf16
          (sitofp .f32
            (shapeCast S128x256
              (shrsi
                (shli (broadcastTo S16x8x256 (shapeCast S16x1x256 w shapeCasts_S16x256_S16x1x256) broadcasts_S16x1x256_S16x8x256)
                  (subi (broadcast S16x8x256 28#32)
                    (muli (broadcast S16x8x256 4#32) (iota .tc S16x8x256 32 [1] iota_S16x8x256_d1_w32))))
                (broadcast S16x8x256 28#32))
              shapeCasts_S16x8x256_S128x256))
          bitsLt_bf16_f32)
        shapeCasts_S128x256_S8x16x256)
      (broadcastTo S8x16x256 (shapeCast S1x16x256 sc shapeCasts_S16x256_S1x16x256) broadcasts_S1x16x256_S8x16x256))
    shapeCasts_S8x16x256_S128x256

/-- One tile of merged rows: the placement matrix times the dequantised rows, plus the low-rank rows `la` times `bt`, as one product of
    the two operands joined along the contracted axis. -/
def mergeTile (v28 : Vec F S128x128 .bf16) (d : FVec F S128x256 .bf16) (la : Vec F S1x128x128 .bf16) (bt : Vec F S128x256 .bf16) :
    FVec F S128x256 .f32 :=
  matmul dot_S128x256_S256x256_S128x256_1_0_0_1_n_n none
    (concatenate S128x256 1 [⟨S128x128, v28⟩, ⟨S128x128, shapeCast S128x128 la shapeCasts_S1x128x128_S128x128⟩]
      concatenates_S128x128_S128x128_S128x256_d1)
    (concatenate S256x256 0 [⟨S128x256, d⟩, ⟨S128x256, bt⟩] concatenates_S128x256_S128x256_S256x256_d0)
    (constant S128x256 .f32 0x00000000#32)

/-- The 16 word rows of one tile, of a trip's 128. -/
abbrev wordRows (o : Fin 2 → ℕ) (h : S128x256.Slices o S16x256) (w : IVec S128x256 32) : IVec S16x256 32 :=
  extractStridedSlice S16x256 o w h

/-- One slab of eight rows added, squared, to the running sums of squares. -/
def ssStep (o : Fin 3 → ℕ) (h : S16x8x256.Slices o S1x8x256) (m : FVec F S16x8x256 .f32) (acc : FVec F S8x256 .f32) :
    FVec F S8x256 .f32 :=
  addf acc
    (mulf (shapeCast S8x256 (extractStridedSlice S1x8x256 o m h) shapeCasts_S1x8x256_S8x256)
      (shapeCast S8x256 (extractStridedSlice S1x8x256 o m h) shapeCasts_S1x8x256_S8x256))

/-- One slab of eight rows taken, by absolute value, into the running maxima. -/
def amaxStep (o : Fin 3 → ℕ) (h : S16x8x256.Slices o S1x8x256) (m : FVec F S16x8x256 .f32) (acc : FVec F S8x256 .f32) :
    FVec F S8x256 .f32 :=
  maximumf acc (absf (shapeCast S8x256 (extractStridedSlice S1x8x256 o m h) shapeCasts_S1x8x256_S8x256))

/-- A tile's 16 slabs of eight rows, added squared to the running sums in order. -/
def ssChain (m : FVec F S16x8x256 .f32) (acc : FVec F S8x256 .f32) : FVec F S8x256 .f32 :=
  ssStep ![15, 0, 0] slices_S16x8x256_o15_0_0_S1x8x256 m     (ssStep ![14, 0, 0] slices_S16x8x256_o14_0_0_S1x8x256 m (ssStep ![13,
    0, 0] slices_S16x8x256_o13_0_0_S1x8x256 m (ssStep ![12, 0, 0] slices_S16x8x256_o12_0_0_S1x8x256 m (ssStep ![11, 0, 0]
    slices_S16x8x256_o11_0_0_S1x8x256 m (ssStep ![10, 0, 0] slices_S16x8x256_o10_0_0_S1x8x256 m (ssStep ![9, 0, 0]
    slices_S16x8x256_o9_0_0_S1x8x256 m (ssStep ![8, 0, 0] slices_S16x8x256_o8_0_0_S1x8x256 m (ssStep ![7, 0, 0]
    slices_S16x8x256_o7_0_0_S1x8x256 m (ssStep ![6, 0, 0] slices_S16x8x256_o6_0_0_S1x8x256 m (ssStep ![5, 0, 0]
    slices_S16x8x256_o5_0_0_S1x8x256 m (ssStep ![4, 0, 0] slices_S16x8x256_o4_0_0_S1x8x256 m (ssStep ![3, 0, 0]
    slices_S16x8x256_o3_0_0_S1x8x256 m (ssStep ![2, 0, 0] slices_S16x8x256_o2_0_0_S1x8x256 m (ssStep ![1, 0, 0]
    slices_S16x8x256_o1_0_0_S1x8x256 m (ssStep ![0, 0, 0] slices_S16x8x256_o0_0_0_S1x8x256 m acc)))))))))))))))

/-- A tile's 16 slabs of eight rows, taken into the running maxima in order. -/
def amaxChain (m : FVec F S16x8x256 .f32) (acc : FVec F S8x256 .f32) : FVec F S8x256 .f32 :=
  amaxStep ![15, 0, 0] slices_S16x8x256_o15_0_0_S1x8x256 m     (amaxStep ![14, 0, 0] slices_S16x8x256_o14_0_0_S1x8x256 m (amaxStep
    ![13, 0, 0] slices_S16x8x256_o13_0_0_S1x8x256 m (amaxStep ![12, 0, 0] slices_S16x8x256_o12_0_0_S1x8x256 m (amaxStep ![11, 0,
    0] slices_S16x8x256_o11_0_0_S1x8x256 m (amaxStep ![10, 0, 0] slices_S16x8x256_o10_0_0_S1x8x256 m (amaxStep ![9, 0, 0]
    slices_S16x8x256_o9_0_0_S1x8x256 m (amaxStep ![8, 0, 0] slices_S16x8x256_o8_0_0_S1x8x256 m (amaxStep ![7, 0, 0]
    slices_S16x8x256_o7_0_0_S1x8x256 m (amaxStep ![6, 0, 0] slices_S16x8x256_o6_0_0_S1x8x256 m (amaxStep ![5, 0, 0]
    slices_S16x8x256_o5_0_0_S1x8x256 m (amaxStep ![4, 0, 0] slices_S16x8x256_o4_0_0_S1x8x256 m (amaxStep ![3, 0, 0]
    slices_S16x8x256_o3_0_0_S1x8x256 m (amaxStep ![2, 0, 0] slices_S16x8x256_o2_0_0_S1x8x256 m (amaxStep ![1, 0, 0]
    slices_S16x8x256_o1_0_0_S1x8x256 m (amaxStep ![0, 0, 0] slices_S16x8x256_o0_0_0_S1x8x256 m acc)))))))))))))))

/-- A tile's 128 rows as 16 slabs of eight. -/
abbrev slabs (m : FVec F S128x256 .f32) : FVec F S16x8x256 .f32 := shapeCast S16x8x256 m shapeCasts_S128x256_S16x8x256

section Trip

variable (arg1 : Memref sig .tc .vmem S1x1024x2048 .i8) (arg5 : Memref sig .tc .vmem S1x16384x128 .bf16)
  (arg13 : Memref sig .tc .vmem S256x2x256 .bf16) (arg15 : Memref sig .tc .vmem S8x256 .f32)
  (arg16 : Memref sig .tc .vmem S128x256 .bf16) (v28 : Vec F S128x128 .bf16) (X1 : BufTy.Contents (Elt F) arg1.view.ty)
  (X5 : BufTy.Contents (Elt F) arg5.view.ty) (X13 : BufTy.Contents (Elt F) arg13.view.ty)
  (X16 : BufTy.Contents (Elt F) arg16.view.ty) (k : Fin k0_t2_loop.trips)

/-- The tile of merged rows that trip `k` stores for scale group `gi` of its two and tile `t` of the group's four, its word rows starting
    at `o`. -/
def tripTile (gi : Fin 2) (t : Fin 4) (o : Fin 2 → ℕ) (h : S128x256.Slices o S16x256) : FVec F S128x256 .f32 :=
  mergeTile v28
    (deqTile
      (wordRows o h (k0_pay3 (View.readAt (Elt F) arg1.view
        (Rect.unit (s := S1x1024x2048) (k0_off2 k) S1x1024x128.size (k0_off2_inb k)).toLoadRect X1)))
      (k0_pay4 (View.readAt (Elt F) arg13.view
        (Rect.unit (s := S256x2x256) (k0_off3 k (BitVec.ofNat 32 gi.val)) S8x2x256.size (k0_off3_inb k gi)).toLoadRect X13)))
    (View.readAt (Elt F) arg5.view (Rect.unit (s := S1x16384x128) (k0_off6 k (BitVec.ofNat 32 gi.val) (BitVec.ofNat 32 t.val))
      S1x128x128.size (k0_off6_inb k gi t)).toLoadRect X5)
    (View.readAt (Elt F) arg16.view (Rect.unit (s := S128x256) ![0, 0] S128x256.size inb_S128x256_S128x256_0_0).toLoadRect X16)

end Trip

section Codes

variable (arg11 : Memref sig .tc .vmem S16384x256 .f32) (arg12 : Memref sig .tc .vmem S256x256 .f32)
  (X12 : BufTy.Contents (Elt F) arg12.view.ty) (k : Fin k0_t2_loop.trips)

/-- One tile's code words: the tile `old` of merged rows times the eight rows `q`, rounded, clamped, packed two to a byte and four bytes
    to a word. -/
def codeTile (q : Vec F S8x256 .f32) (old : Vec F S128x256 .f32) : IVec S16x256 32 :=
  k0_pay9 (k0_pay7 q old) (k0_pay8 q old)

/-- The code words that trip `k` makes of scale group `gi` of its two and tile `t` of the group's four, from what arg11 and arg12 held
    before the trip. -/
def tripCodes (f11 : BufTy.Contents (Elt F) arg11.view.ty) (gi : Fin 2) (t : Fin 4) : IVec S16x256 32 :=
  codeTile
    (View.readAt (Elt F) arg12.view
      (Rect.unit (s := S256x256) (k0_off4 k (BitVec.ofNat 32 gi.val)) S8x256.size (k0_off4_inb k gi)).toLoadRect X12)
    (View.readAt (Elt F) arg11.view (Rect.unit (s := S16384x256) (k0_off5 k (BitVec.ofNat 32 gi.val) (BitVec.ofNat 32 t.val))
      S128x256.size (k0_off5_inb k gi t)).toLoadRect f11)

end Codes

end Tile

/-! ## At an index, over the ideal values -/

/-- The four bits `[4i, 4i + 4)` of a word, sign-extended. -/
theorem nibble_shift (w : BitVec 32) (i : ℕ) (hi : i < 8) :
    IntOp.shrsi ArithUnit.vector (IntOp.shli ArithUnit.vector w (IntOp.subi (28#32) (IntOp.muli (4#32) (BitVec.ofNat 32 i)))) 28#32
      = (w.extractLsb' (4 * i) 4).signExtend 32 := by
  have hs : IntOp.subi (28#32) (IntOp.muli (4#32) (BitVec.ofNat 32 i)) = BitVec.ofNat 32 (28 - 4 * i) := by
    interval_cases i <;> rfl
  rw [hs]
  have hn : (BitVec.ofNat 32 (28 - 4 * i)).toNat = 28 - 4 * i := by
    rw [BitVec.toNat_ofNat]; omega
  rw [IntOp.shli, if_pos (by rw [hn]; omega), IntOp.shrsi, if_pos (by decide)]
  apply BitVec.eq_of_getLsbD_eq
  intro q hq
  rw [BitVec.sshiftRight', BitVec.getLsbD_sshiftRight, BitVec.shiftLeft_eq', hn]
  simp only [BitVec.getLsbD_signExtend, BitVec.getLsbD_shiftLeft, BitVec.getLsbD_extractLsb', BitVec.msb_eq_getLsbD_last]
  by_cases h4 : q < 4
  · have e : 28 + q - (28 - 4 * i) = 4 * i + q := by omega
    simp [h4, hq, show (28#32).toNat = 28 from rfl, show 28 + q < 32 by omega, show ¬ 28 + q < 28 - 4 * i by omega, e,
      show ¬ 32 ≤ q by omega]
  · have e : 31 - (28 - 4 * i) = 4 * i + 3 := by omega
    simp [h4, hq, show (28#32).toNat = 28 from rfl, show ¬ 28 + q < 32 by omega, show ¬ 31 < 28 - 4 * i by omega, e,
      show ¬ 32 ≤ q by omega]

/-- A four-bit code as a value, its highest bit the sign. -/
def codeVal (b : BitVec 4) : EReal := ((b.toInt : ℝ) : EReal)

/-- A tile's dequantised row `j` is nibble `j % 8` of word row `j / 8` times scale row `j % 16`. -/
theorem deqTile_apply (w : IVec S16x256 32) (sc : FVec Ideal S16x256 .bf16) (j : Fin 128) (l : Fin 256) :
    deqTile (F := Ideal) w sc (ix2 j l)
      = codeVal ((w (ix2 ⟨j.val / 8, by omega⟩ l)).extractLsb' (4 * (j.val % 8)) 4) * sc (ix2 ⟨j.val % 16, by omega⟩ l) := by
  unfold deqTile
  pointwise
  rw [nibble_shift _ _ (Nat.mod_lt _ (by decide))]
  show (((BitVec.signExtend 32 _).toInt : ℝ) : EReal) * _ = _
  rw [BitVec.toInt_signExtend_of_le (by decide)]
  rfl

/-- A tile of merged rows at an index: the placement row times the dequantised column, plus the low-rank row times its column. -/
theorem mergeTile_apply (v28 : Vec Ideal S128x128 .bf16) (d : FVec Ideal S128x256 .bf16) (la : Vec Ideal S1x128x128 .bf16)
    (bt : Vec Ideal S128x256 .bf16) (r : Fin 128) (l : Fin 256) :
    mergeTile (F := Ideal) v28 d la bt (ix2 r l)
      = (∑ x : Fin 128, v28 (ix2 r x) * d (ix2 x l)) + ∑ x : Fin 128, la (ix3 0 r x) * bt (ix2 x l) := by
  unfold mergeTile
  pointwise

/-- The scale rows of a group, row `r` of 16 being half `r % 2` of row `r / 2` of 8. -/
theorem pay4_apply (v : Vec Ideal S8x2x256 .bf16) (r : Fin 16) (l : Fin 256) :
    k0_pay4 (F := Ideal) v (ix2 r l) = v (ix3 ⟨r.val / 2, by omega⟩ ⟨r.val % 2, by omega⟩ l) := by
  unfold k0_pay4
  pointwise
  split
  · next h => congr 2; exact Fin.ext h.symm
  · next h => congr 2; exact Fin.ext (show 1 = r.val % 2 by omega)

/-- A word of the transposed codes: bits `[4i, 4i + 4)` of the word at row `c` and lane `l` are a nibble of the byte in column `c` and
    row `4l + i / 2`. -/
theorem pay3_nibble (v : Vec Ideal S1x1024x128 .i8) (c : Fin 128) (l : Fin 256) (i : ℕ) (hi : i < 8) :
    (k0_pay3 (F := Ideal) v (ix2 c l)).extractLsb' (4 * i) 4
      = BitVec.extractLsb' (4 * (i % 2)) 4 (show BitVec 8 from v (ix3 0 ⟨4 * l.val + i / 2, by omega⟩ c)) := by
  unfold k0_pay3
  pointwise
  apply BitVec.eq_of_getLsbD_eq
  intro q hq
  simp only [BitVec.getLsbD_extractLsb', hq, decide_true, Bool.true_and]
  refine (bitcast_8_32_getLsbD_ix2 _ bitcasts_S1024x128_w8_S256x128_w32 l c (4 * i + q) (by omega) ⟨4 * l.val + i / 2, by omega⟩
    (by show 4 * l.val + i / 2 = 4 * l.val + (4 * i + q) / 8; omega)).trans ?_
  have e : (4 * i + q) % 8 = 4 * (i % 2) + q := by omega
  rw [e]
  congr 1
  show shapeCast S1024x128 v shapeCasts_S1x1024x128_S1024x128 (ix2 ⟨4 * l.val + i / 2, by omega⟩ c) = _
  pointwise

/-- The 16 slabs' squares, added to the running sums. -/
theorem ssChain_apply (m : FVec Ideal S128x256 .f32) (acc : FVec Ideal S8x256 .f32) (r : Fin 8) (l : Fin 256) (f : ℕ → EReal)
    (hf : ∀ p : Fin 16, f p.val = m (ix2 ⟨8 * p.val + r.val, by omega⟩ l)) :
    ssChain (F := Ideal) (slabs m) acc (ix2 r l) = acc (ix2 r l) + ∑ p ∈ Finset.range 16, f p * f p := by
  unfold ssChain ssStep slabs
  pointwise
  simp only [Finset.sum_range_succ, Finset.sum_range_zero, zero_add, ← add_assoc]
  have hz : m (ix2 ⟨r.val, by omega⟩ l) = f 0 := by
    rw [show (0 : ℕ) = (0 : Fin 16).val from rfl, hf 0]; congr 2; exact Fin.ext (by simp)
  rw [hz]
  have h := fun p : Fin 16 => (hf p).symm
  have h1 := h 1; have h2 := h 2; have h3 := h 3; have h4 := h 4; have h5 := h 5; have h6 := h 6; have h7 := h 7; have h8 := h 8
  have h9 := h 9; have h10 := h 10; have h11 := h 11; have h12 := h 12; have h13 := h 13; have h14 := h 14; have h15 := h 15
  simp only [Fin.isValue, Fin.reduceFinMk, Fin.coe_ofNat_eq_mod, Nat.reduceMod, Nat.reduceMul] at h1 h2 h3 h4 h5 h6 h7 h8 h9 h10 h11 h12 h13 h14 h15
  rw [h1, h2, h3, h4, h5, h6, h7, h8, h9, h10, h11, h12, h13, h14, h15]

/-- The 16 slabs' absolute values, taken into the running maxima. -/
theorem amaxChain_apply (m : FVec Ideal S128x256 .f32) (acc : FVec Ideal S8x256 .f32) (r : Fin 8) (l : Fin 256) (f : ℕ → EReal)
    (hf : ∀ p : Fin 16, f p.val = m (ix2 ⟨8 * p.val + r.val, by omega⟩ l)) :
    amaxChain (F := Ideal) (slabs m) acc (ix2 r l)
      = max (acc (ix2 r l)) ((Finset.range 16).sup fun p => max (f p) (-(f p))) := by
  unfold amaxChain amaxStep slabs
  pointwise
  simp only [Finset.range_add_one, Finset.sup_insert, Finset.range_zero, Finset.sup_empty, Ideal.absf_def]
  have hz : m (ix2 ⟨r.val, by omega⟩ l) = f 0 := by
    rw [show (0 : ℕ) = (0 : Fin 16).val from rfl, hf 0]; congr 2; exact Fin.ext (by simp)
  rw [hz]
  have h := fun p : Fin 16 => (hf p).symm
  have h1 := h 1; have h2 := h 2; have h3 := h 3; have h4 := h 4; have h5 := h 5; have h6 := h 6; have h7 := h 7; have h8 := h 8
  have h9 := h 9; have h10 := h 10; have h11 := h 11; have h12 := h 12; have h13 := h 13; have h14 := h 14; have h15 := h 15
  simp only [Fin.isValue, Fin.reduceFinMk, Fin.coe_ofNat_eq_mod, Nat.reduceMod, Nat.reduceMul] at h1 h2 h3 h4 h5 h6 h7 h8 h9 h10 h11 h12 h13 h14 h15
  rw [h1, h2, h3, h4, h5, h6, h7, h8, h9, h10, h11, h12, h13, h14, h15]
  simp only [bot_sup_eq, sup_bot_eq]
  ac_rfl

end Cert.KernelIdeal.Hand
-- ==== Proof.KernelIdeal.Trip.lean ====
module
public import proofs.«01_k».proof.Proof.KernelIdeal.Tile
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem
/-! ## What a trip loads, and its tiles at an index -/

/-- A load at a unit-stride rectangle, read at an index: what the view reads at the offsets plus the index. -/
theorem readAt_at {sp : Space} {s : Shape} {e : EltTy} (v : View sig .tc sp s e) (f : v.ty.Contents (Elt Ideal))
    {off off' size : Fin s.rank → ℕ} (inb : ∀ a, off a + size a ≤ s.size a) (y : (Rect.unit off size inb).toLoadRect.shape.Idx)
    (z : s.Idx) (heq : off = off') (hz : ∀ a, (z a).val = off' a + (y a).val) :
    v.readAt (Elt Ideal) (Rect.unit off size inb).toLoadRect f y = v.read (Elt Ideal) f z := by
  subst heq
  exact congrArg (v.read (Elt Ideal) f) (funext fun a => Fin.ext (by
    show off a + 1 * (y a).val = (z a).val
    rw [hz a, Nat.one_mul]))

theorem off2_eq : ∀ k : Fin k0_t2_loop.trips, k0_off2 k = ![0, 0, 128 * k.val] := by decide
theorem off3_eq : ∀ (k : Fin k0_t2_loop.trips) (gi : Fin 2), k0_off3 k (BitVec.ofNat 32 gi.val) = ![8 * (2 * k.val + gi.val), 0, 0] := by
  decide
theorem off4_eq : ∀ (k : Fin k0_t2_loop.trips) (gi : Fin 2), k0_off4 k (BitVec.ofNat 32 gi.val) = ![8 * (2 * k.val + gi.val), 0] := by
  decide
theorem off5_eq : ∀ (k : Fin k0_t2_loop.trips) (gi : Fin 2) (t : Fin 4),
    k0_off5 k (BitVec.ofNat 32 gi.val) (BitVec.ofNat 32 t.val) = ![1024 * k.val + 512 * gi.val + 128 * t.val, 0] := by decide
theorem off6_eq : ∀ (k : Fin k0_t2_loop.trips) (gi : Fin 2) (t : Fin 4),
    k0_off6 k (BitVec.ofNat 32 gi.val) (BitVec.ofNat 32 t.val) = ![0, 1024 * k.val + 512 * gi.val + 128 * t.val, 0] := by decide

theorem trips_lt (k : Fin k0_t2_loop.trips) : k.val < 16 := k.isLt

/-- The merged row `ρ` at lane `l`: the placement row times the dequantised column of the 128 rows that `ρ` lies in, plus the low-rank
    row times its column. -/
def mAt (x1 : Vec Ideal S1x1024x2048 .i8) (x5 : Vec Ideal S1x16384x128 .bf16) (x6 : Vec Ideal S128x128 .bf16)
    (x13 : Vec Ideal S256x2x256 .bf16) (x16 : Vec Ideal S128x256 .bf16) (ρ : Fin 16384) (l : Fin 256) : EReal :=
  (∑ j : Fin 128, x6 (ix2 ⟨ρ.val % 128, by omega⟩ j)
    * (codeVal (BitVec.extractLsb' (4 * (j.val % 8 % 2)) 4
        (show BitVec 8 from x1 (ix3 0 ⟨4 * l.val + j.val % 8 / 2, by omega⟩ ⟨16 * (ρ.val / 128) + j.val / 8, by omega⟩)))
      * x13 (ix3 ⟨8 * (ρ.val / 512) + j.val % 16 / 2, by omega⟩ ⟨j.val % 16 % 2, by omega⟩ l)))
  + ∑ j : Fin 128, x5 (ix3 0 ρ j) * x16 (ix2 j l)

theorem wordSlices : ∀ (gi : Fin 2) (t : Fin 4), S128x256.Slices ![16 * (4 * gi.val + t.val), 0] S16x256 := by decide

/-- A trip's tile at an index is the merged row it stands for. -/
theorem tripTile_apply (arg1 : Memref sig .tc .vmem S1x1024x2048 .i8) (arg5 : Memref sig .tc .vmem S1x16384x128 .bf16)
    (arg13 : Memref sig .tc .vmem S256x2x256 .bf16) (arg16 : Memref sig .tc .vmem S128x256 .bf16) (v28 : Vec Ideal S128x128 .bf16)
    (X1 : BufTy.Contents (Elt Ideal) arg1.view.ty) (X5 : BufTy.Contents (Elt Ideal) arg5.view.ty)
    (X13 : BufTy.Contents (Elt Ideal) arg13.view.ty) (X16 : BufTy.Contents (Elt Ideal) arg16.view.ty) (k : Fin k0_t2_loop.trips)
    (gi : Fin 2) (t : Fin 4) (r : Fin 128) (l : Fin 256) (ρ : Fin 16384)
    (hρ : ρ.val = 1024 * k.val + 512 * gi.val + 128 * t.val + r.val) :
    tripTile arg1 arg5 arg13 arg16 v28 X1 X5 X13 X16 k gi t ![16 * (4 * gi.val + t.val), 0] (wordSlices gi t) (ix2 r l)
      = mAt (arg1.view.read (Elt Ideal) X1) (arg5.view.read (Elt Ideal) X5) v28 (arg13.view.read (Elt Ideal) X13)
          (arg16.view.read (Elt Ideal) X16) ρ l := by
  have hk := trips_lt k
  unfold tripTile mAt
  rw [mergeTile_apply]
  congr 1
  · refine Finset.sum_congr rfl fun j _ => ?_
    rw [deqTile_apply]
    congr 1
    · exact congrArg (fun z => v28 (ix2 z j)) (Fin.ext (by show r.val = ρ.val % 128; omega))
    congr 1
    · congr 1
      have hw : wordRows ![16 * (4 * gi.val + t.val), 0] (wordSlices gi t) (k0_pay3 (View.readAt (Elt Ideal) arg1.view
          (Rect.unit (s := S1x1024x2048) (k0_off2 k) S1x1024x128.size (k0_off2_inb k)).toLoadRect X1)) (ix2 ⟨j.val / 8, by omega⟩ l)
          = k0_pay3 (View.readAt (Elt Ideal) arg1.view
          (Rect.unit (s := S1x1024x2048) (k0_off2 k) S1x1024x128.size (k0_off2_inb k)).toLoadRect X1)
            (ix2 ⟨16 * (4 * gi.val + t.val) + j.val / 8, by omega⟩ l) := by
        unfold wordRows extractStridedSlice
        congr 1
        funext a
        match a with
        | ⟨0, _⟩ => rfl
        | ⟨1, _⟩ => exact Fin.ext (Nat.zero_add _)
      rw [hw]
      rw [pay3_nibble _ _ _ _ (Nat.mod_lt _ (by decide))]
      congr 1
      refine readAt_at arg1.view X1 (k0_off2_inb k) _ _ (off2_eq k) fun a => ?_
      match a with
      | ⟨0, _⟩ => rfl
      | ⟨1, _⟩ => exact (Nat.zero_add _).symm
      | ⟨2, _⟩ => show 16 * (ρ.val / 128) + j.val / 8 = 128 * k.val + (16 * (4 * gi.val + t.val) + j.val / 8); omega
    · rw [pay4_apply]
      refine readAt_at arg13.view X13 (k0_off3_inb k gi) _ _ (off3_eq k gi) fun a => ?_
      match a with
      | ⟨0, _⟩ => show 8 * (ρ.val / 512) + j.val % 16 / 2 = 8 * (2 * k.val + gi.val) + j.val % 16 / 2; omega
      | ⟨1, _⟩ => exact (Nat.zero_add _).symm
      | ⟨2, _⟩ => exact (Nat.zero_add _).symm
  · refine Finset.sum_congr rfl fun j _ => ?_
    congr 1
    · refine readAt_at arg5.view X5 (k0_off6_inb k gi t) _ _ (off6_eq k gi t) fun a => ?_
      match a with
      | ⟨0, _⟩ => rfl
      | ⟨1, _⟩ => exact hρ
      | ⟨2, _⟩ => exact (Nat.zero_add _).symm
    · refine readAt_at arg16.view X16 inb_S128x256_S128x256_0_0 _ _ rfl fun a => ?_
      match a with
      | ⟨0, _⟩ => exact (Nat.zero_add _).symm
      | ⟨1, _⟩ => exact (Nat.zero_add _).symm

/-- The new codes' byte made of two scaled merged elements: each rounded to nearest even, clamped to [-7, 7] and taken as four bits, the
    first below the second. -/
def packByte (x0 x1 : EReal) : BitVec 8 :=
  BitVec.setWidth 8
    (IntOp.ori
      (IntOp.andi (FloatOps.fptosi (F := Ideal) (φ := .f32) 32 (min (Ideal.ofBits FTy.f32 1088421888#32)
        (max (Ideal.ofBits FTy.f32 3235905536#32) (Ideal.liftRound Ideal.roundHalfEven x0)))) 15#32)
      (IntOp.shli ArithUnit.vector
        (IntOp.andi (FloatOps.fptosi (F := Ideal) (φ := .f32) 32 (min (Ideal.ofBits FTy.f32 1088421888#32)
          (max (Ideal.ofBits FTy.f32 3235905536#32) (Ideal.liftRound Ideal.roundHalfEven x1)))) 15#32)
        4#32))

/-- Byte `k` of a code word: the pair of merged rows it packs, times their row of scales. -/
theorem codeTile_byte (q : Vec Ideal S8x256 .f32) (old : Vec Ideal S128x256 .f32) (w : Fin 16) (l : Fin 256) (k : Fin 4) :
    (codeTile (F := Ideal) q old (ix2 w l)).extractLsb' (8 * k.val) 8
      = packByte
          (old (ix2 ⟨16 * (w.val / 2) + 4 * (w.val % 2) + k.val, by omega⟩ l) * q (ix2 ⟨4 * (w.val % 2) + k.val, by omega⟩ l))
          (old (ix2 ⟨16 * (w.val / 2) + 8 + 4 * (w.val % 2) + k.val, by omega⟩ l) * q (ix2 ⟨4 * (w.val % 2) + k.val, by omega⟩ l)) := by
  have e0 : (4 * w.val + k.val) % 8 = 4 * (w.val % 2) + k.val := by omega
  have e1 : (4 * w.val + k.val) / 8 * 16 = 16 * (w.val / 2) := by omega
  apply BitVec.eq_of_getLsbD_eq
  intro b hb
  rw [BitVec.getLsbD_extractLsb', decide_eq_true hb, Bool.true_and]
  unfold codeTile k0_pay9
  refine (bitcast_8_32_getLsbD_ix2 _ bitcasts_S64x256_w8_S16x256_w32 w l (8 * k.val + b) (by omega) ⟨4 * w.val + k.val, by omega⟩
    (by show 4 * w.val + k.val = 4 * w.val + (8 * k.val + b) / 8; omega)).trans ?_
  rw [show (8 * k.val + b) % 8 = b by omega]
  congr 1
  unfold k0_pay7 k0_pay8 k0_pay6
  show (trunci 8 _ natLt_8_32 : IVec S64x256 8) (ix2 ⟨4 * w.val + k.val, by omega⟩ l) = _
  pointwise
  simp only [e0, e1, ← Nat.add_assoc]
  rfl

/-- The stored block of codes: row `R` and column `c` is byte `R % 4` of the word of tile `c / 16` at its row `c % 16` and lane `R / 4`. -/
theorem pay143_apply (T : Fin 8 → IVec S16x256 32) (R : Fin 1024) (c : Fin 128) :
    k0_pay143 (T 0) (T 1) (T 2) (T 3) (T 4) (T 5) (T 6) (T 7) (ix3 0 R c)
      = BitVec.extractLsb' (8 * (R.val % 4)) 8 (T ⟨c.val / 16, by omega⟩ (ix2 ⟨c.val % 16, by omega⟩ ⟨R.val / 4, by omega⟩)) := by
  unfold k0_pay143
  pointwise
  apply BitVec.eq_of_getLsbD_eq
  intro b hb
  rw [bitcast_getLsbD _ bitcasts_S256x128_w32_S1024x128_w8 _ b hb (by decide), BitVec.getLsbD_extractLsb', decide_eq_true hb,
    Bool.true_and]
  have hrow : Shape.row (⟨2, ![1024, 128]⟩ : Shape) (ix2 R c) = R.val := rfl
  have hs : bitcasts_S256x128_w32_S1024x128_w8.srcIdx (ix2 R c) ((Shape.row (⟨2, ![1024, 128]⟩ : Shape) (ix2 R c) * 8 + b) / 32)
      (fun a ha => (Nat.div_lt_iff_lt_mul (by decide)).2 (bitcasts_S256x128_w32_S1024x128_w8.pos_lt _ b hb a ha))
      = (ix2 ⟨R.val / 4, by omega⟩ c : (⟨2, ![256, 128]⟩ : Shape).Idx) := by
    funext a
    match a with
    | ⟨0, _⟩ =>
      exact Fin.ext ((bitcasts_S256x128_w32_S1024x128_w8.srcIdx_row _ _ _ ⟨0, Nat.zero_lt_two⟩ rfl).trans (by
        show (R.val * 8 + b) / 32 = R.val / 4; omega))
    | ⟨1, _⟩ => exact Fin.ext (bitcasts_S256x128_w32_S1024x128_w8.srcIdx_other _ _ _ ⟨1, Nat.one_lt_two⟩ (by show ¬ 1 + 2 = 2; omega))
  refine (congrArg (fun z => ((transpose S256x128 [1, 0]
    (concatenate S128x256 0 [⟨S16x256, T 0⟩, ⟨S16x256, T 1⟩, ⟨S16x256, T 2⟩, ⟨S16x256, T 3⟩, ⟨S16x256, T 4⟩, ⟨S16x256, T 5⟩,
      ⟨S16x256, T 6⟩, ⟨S16x256, T 7⟩] concatenates_S16x256_S16x256_S16x256_S16x256_S16x256_S16x256_S16x256_S16x256_S128x256_d0)
    transposes_S128x256_p1_0_S256x128 : IVec S256x128 32) z).getLsbD _) hs).trans ?_
  rw [show (Shape.row (⟨2, ![1024, 128]⟩ : Shape) (ix2 R c) * 8 + b) % 32 = 8 * (R.val % 4) + b by
    show (R.val * 8 + b) % 32 = _; omega]
  congr 1
  pointwise
  have key : ∀ (i : Fin 8) (x : Fin 16) , c.val / 16 = i.val → c.val % 16 = x.val →
      T i (ix2 x ⟨R.val / 4, by omega⟩) = T ⟨c.val / 16, by omega⟩ (ix2 ⟨c.val % 16, by omega⟩ ⟨R.val / 4, by omega⟩) := by
    intro i x h1 h2
    have a1 : i = ⟨c.val / 16, by omega⟩ := Fin.ext h1.symm
    have a2 : x = ⟨c.val % 16, by omega⟩ := Fin.ext h2.symm
    rw [← a1, ← a2]
  repeat' split
  all_goals (apply key <;> simp only [Fin.isValue, Fin.coe_ofNat_eq_mod] <;> omega)

end Cert.KernelIdeal.Hand
-- ==== Proof.KernelIdeal.Loop.lean ====
module
public import proofs.«01_k».proof.Proof.KernelIdeal.Trip
public import Idealize.ShloMosaic.Lib.WritesUnit
public import Idealize.ShloMosaic.Lib.VecWindow
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem
/-! ## The trip's stores, and the loop over the 16 trips -/

/-- Row `n` of the 16384, counted round. -/
def rowAt (n : ℕ) : Fin 16384 := ⟨n % 16384, Nat.mod_lt _ (by decide)⟩

theorem rowAt_eq (ρ : Fin 16384) (n : ℕ) (h : n = ρ.val) : rowAt n = ρ := Fin.ext (by show n % 16384 = ρ.val; omega)

/-- One more tile's squares: a running sum over the first `n` slabs becomes one over the first `n + 16`. -/
theorem ssChain_step (m : FVec Ideal S128x256 .f32) (acc : FVec Ideal S8x256 .f32) (r : Fin 8) (l : Fin 256) (g : ℕ → EReal) (A : EReal)
    (n : ℕ) (hf : ∀ p : Fin 16, g (n + p.val) = m (ix2 ⟨8 * p.val + r.val, by omega⟩ l))
    (hacc : acc (ix2 r l) = A + ∑ p ∈ Finset.range n, g p * g p) :
    ssChain (F := Ideal) (slabs m) acc (ix2 r l) = A + ∑ p ∈ Finset.range (n + 16), g p * g p := by
  rw [ssChain_apply m acc r l (fun p => g (n + p)) hf, hacc, Finset.sum_range_add, add_assoc]

/-- One more tile's absolute values: a running maximum over the first `n` slabs becomes one over the first `n + 16`. -/
theorem amaxChain_step (m : FVec Ideal S128x256 .f32) (acc : FVec Ideal S8x256 .f32) (r : Fin 8) (l : Fin 256) (g : ℕ → EReal) (A : EReal)
    (n : ℕ) (hf : ∀ p : Fin 16, g (n + p.val) = m (ix2 ⟨8 * p.val + r.val, by omega⟩ l))
    (hacc : acc (ix2 r l) = max A ((Finset.range n).sup fun p => max (g p) (-(g p)))) :
    amaxChain (F := Ideal) (slabs m) acc (ix2 r l) = max A ((Finset.range (n + 16)).sup fun p => max (g p) (-(g p))) := by
  rw [amaxChain_apply m acc r l (fun p => g (n + p)) hf, hacc, max_assoc]
  congr 1
  rw [Finset.range_eq_Ico, Finset.range_eq_Ico, Finset.range_eq_Ico, ← Finset.Ico_union_Ico_eq_Ico (Nat.zero_le n) (Nat.le_add_right n 16),
    Finset.sup_union]
  congr 1
  have e : Finset.Ico n (n + 16) = (Finset.Ico 0 16).image (fun p => n + p) := by
    rw [Finset.image_add_left_Ico]; rfl
  rw [e, Finset.sup_image]
  rfl

section Loop

variable (arg1 : Memref sig .tc .vmem S1x1024x2048 .i8) (arg5 : Memref sig .tc .vmem S1x16384x128 .bf16)
  (arg9 : Memref sig .tc .vmem S1x1024x2048 .i8) (arg11 : Memref sig .tc .vmem S16384x256 .f32)
  (arg12 : Memref sig .tc .vmem S256x256 .f32) (arg13 : Memref sig .tc .vmem S256x2x256 .bf16)
  (arg14 : Memref sig .tc .vmem S256x256 .f32) (arg15 : Memref sig .tc .vmem S8x256 .f32)
  (arg16 : Memref sig .tc .vmem S128x256 .bf16) (v28 : Vec Ideal S128x128 .bf16)
  (X1 : BufTy.Contents (Elt Ideal) arg1.view.ty) (X5 : BufTy.Contents (Elt Ideal) arg5.view.ty)
  (X12 : BufTy.Contents (Elt Ideal) arg12.view.ty) (X13 : BufTy.Contents (Elt Ideal) arg13.view.ty)
  (X16 : BufTy.Contents (Elt Ideal) arg16.view.ty)

/-- The merged row `ρ` at lane `l` that the loop stores. -/
abbrev loopM (ρ : Fin 16384) (l : Fin 256) : EReal :=
  mAt (arg1.view.read (Elt Ideal) X1) (arg5.view.read (Elt Ideal) X5) v28 (arg13.view.read (Elt Ideal) X13)
    (arg16.view.read (Elt Ideal) X16) ρ l

/-- Trip `k`'s tile for group `gi` and tile `t`. -/
abbrev loopTile (k : Fin k0_t2_loop.trips) (gi : Fin 2) (t : Fin 4) : FVec Ideal S128x256 .f32 :=
  tripTile arg1 arg5 arg13 arg16 v28 X1 X5 X13 X16 k gi t ![16 * (4 * gi.val + t.val), 0] (wordSlices gi t)

/-- Trip `k`'s store of codes, from what arg11 held before the trip. -/
abbrev pieces9 (k : Fin k0_t2_loop.trips) (f11 : BufTy.Contents (Elt Ideal) arg11.view.ty) :
    List (View.Piece (Elt Ideal) S1x1024x2048 .i8) :=
  [⟨Rect.unit (s := S1x1024x2048) (k0_off2 k) S1x1024x128.size (k0_off2_inb k),
    k0_pay143 (tripCodes arg11 arg12 X12 k f11 0 0) (tripCodes arg11 arg12 X12 k f11 0 1) (tripCodes arg11 arg12 X12 k f11 0 2)
      (tripCodes arg11 arg12 X12 k f11 0 3) (tripCodes arg11 arg12 X12 k f11 1 0) (tripCodes arg11 arg12 X12 k f11 1 1)
      (tripCodes arg11 arg12 X12 k f11 1 2) (tripCodes arg11 arg12 X12 k f11 1 3)⟩]

/-- Trip `k`'s store of the tile for group `q.1` and tile `q.2`. -/
abbrev piece11 (k : Fin k0_t2_loop.trips) (q : Fin 2 × Fin 4) : View.Piece (Elt Ideal) S16384x256 .f32 :=
  ⟨Rect.unit (s := S16384x256) (k0_off5 k (BitVec.ofNat 32 q.1.val) (BitVec.ofNat 32 q.2.val)) S128x256.size (k0_off5_inb k q.1 q.2),
    shapeCast S128x256 (loopTile arg1 arg5 arg13 arg16 v28 X1 X5 X13 X16 k q.1 q.2) shapeCasts_S128x256_S128x256⟩

/-- Trip `k`'s stores of merged rows, the last first. -/
abbrev pieces11 (k : Fin k0_t2_loop.trips) : List (View.Piece (Elt Ideal) S16384x256 .f32) :=
  [(1, 3), (1, 2), (1, 1), (1, 0), (0, 3), (0, 2), (0, 1), (0, 0)].map (piece11 arg1 arg5 arg13 arg16 v28 X1 X5 X13 X16 k)

/-- The maxima of group `gi` of trip `k`: its four tiles in order, from zero. -/
abbrev groupMax (k : Fin k0_t2_loop.trips) (gi : Fin 2) : FVec Ideal S8x256 .f32 :=
  amaxChain (slabs (loopTile arg1 arg5 arg13 arg16 v28 X1 X5 X13 X16 k gi 3))
    (amaxChain (slabs (loopTile arg1 arg5 arg13 arg16 v28 X1 X5 X13 X16 k gi 2))
      (amaxChain (slabs (loopTile arg1 arg5 arg13 arg16 v28 X1 X5 X13 X16 k gi 1))
        (amaxChain (slabs (loopTile arg1 arg5 arg13 arg16 v28 X1 X5 X13 X16 k gi 0))
          (broadcast S8x256 (Scalar.ofBits .f32 0x00000000#32)))))

/-- Trip `k`'s store of group `gi`'s maxima. -/
abbrev piece14 (k : Fin k0_t2_loop.trips) (gi : Fin 2) : View.Piece (Elt Ideal) S256x256 .f32 :=
  ⟨Rect.unit (s := S256x256) (k0_off4 k (BitVec.ofNat 32 gi.val)) S8x256.size (k0_off4_inb k gi),
    shapeCast S8x256 (groupMax arg1 arg5 arg13 arg16 v28 X1 X5 X13 X16 k gi) shapeCasts_S8x256_S8x256⟩

/-- Group `gi`'s four tiles' squares added to the running sums. -/
abbrev groupSum (k : Fin k0_t2_loop.trips) (gi : Fin 2) (acc : FVec Ideal S8x256 .f32) : FVec Ideal S8x256 .f32 :=
  ssChain (slabs (loopTile arg1 arg5 arg13 arg16 v28 X1 X5 X13 X16 k gi 3))
    (ssChain (slabs (loopTile arg1 arg5 arg13 arg16 v28 X1 X5 X13 X16 k gi 2))
      (ssChain (slabs (loopTile arg1 arg5 arg13 arg16 v28 X1 X5 X13 X16 k gi 1))
        (ssChain (slabs (loopTile arg1 arg5 arg13 arg16 v28 X1 X5 X13 X16 k gi 0)) acc)))

/-- Trip `k`'s store of the running sums of squares, from what arg15 held before it. -/
abbrev pieces15 (k : Fin k0_t2_loop.trips) (f15 : BufTy.Contents (Elt Ideal) arg15.view.ty) :
    List (View.Piece (Elt Ideal) S8x256 .f32) :=
  [⟨Rect.unit (s := S8x256) ![0, 0] S8x256.size inb_S8x256_S8x256_0_0,
    shapeCast S8x256 (groupSum arg1 arg5 arg13 arg16 v28 X1 X5 X13 X16 k 1 (groupSum arg1 arg5 arg13 arg16 v28 X1 X5 X13 X16 k 0
      (View.readAt (Elt Ideal) arg15.view (Rect.unit (s := S8x256) ![0, 0] S8x256.size inb_S8x256_S8x256_0_0).toLoadRect f15)))
      shapeCasts_S8x256_S8x256⟩]

/-- The merged rows after a trip's tiles: those in the listed tiles are the merged rows, the others what was there. -/
theorem read11_tiles (k : Fin k0_t2_loop.trips) (G : BufTy.Contents (Elt Ideal) arg11.view.ty)
    (L : List (View.Piece (Elt Ideal) S16384x256 .f32)) (ρ : Fin 16384) (l : Fin 256) (qs : List (Fin 2 × Fin 4)) :
    arg11.view.read (Elt Ideal) (arg11.view.writes (Elt Ideal) G
        (qs.map (piece11 arg1 arg5 arg13 arg16 v28 X1 X5 X13 X16 k) ++ L)) (ix2 ρ l)
      = if ∃ q ∈ qs, 1024 * k.val + 512 * q.1.val + 128 * q.2.val ≤ ρ.val
            ∧ ρ.val < 1024 * k.val + 512 * q.1.val + 128 * q.2.val + 128
          then loopM arg1 arg5 arg13 arg16 v28 X1 X5 X13 X16 ρ l
          else arg11.view.read (Elt Ideal) (arg11.view.writes (Elt Ideal) G L) (ix2 ρ l) := by
  induction qs with
  | nil => simp
  | cons q qs ih =>
    by_cases h : 1024 * k.val + 512 * q.1.val + 128 * q.2.val ≤ ρ.val
        ∧ ρ.val < 1024 * k.val + 512 * q.1.val + 128 * q.2.val + 128
    · rw [if_pos ⟨q, List.mem_cons_self, h⟩]
      refine (View.read_writes_cons_rows_of_mem arg11.view G (k0_off5_inb k q.1 q.2) _ _ (ix2 ρ l)
        (ix2 ⟨ρ.val - (1024 * k.val + 512 * q.1.val + 128 * q.2.val), by omega⟩ l : (⟨2, ![128, 256]⟩ : Shape).Idx)
        (off5_eq k q.1 q.2) (by show ρ.val = _ + (ρ.val - _); omega) rfl).trans ?_
      refine (show _ = loopTile arg1 arg5 arg13 arg16 v28 X1 X5 X13 X16 k q.1 q.2
        (ix2 ⟨ρ.val - (1024 * k.val + 512 * q.1.val + 128 * q.2.val), by omega⟩ l) by pointwise).trans ?_
      exact tripTile_apply arg1 arg5 arg13 arg16 v28 X1 X5 X13 X16 k q.1 q.2 _ l ρ (by show _ = _ + (ρ.val - _); omega)
    · refine (View.read_writes_cons_rows_of_not_mem arg11.view G (k0_off5_inb k q.1 q.2) _ _ (ix2 ρ l)
        (off5_eq k q.1 q.2) (W := 128) rfl (by show ρ.val < _ ∨ _ ≤ ρ.val; omega)).trans (ih.trans ?_)
      simp only [List.mem_cons, exists_eq_or_imp, h, false_or]

/-- Read after trip `k`: its 1024 merged rows are there, the others as before it. -/
theorem read11_trip (k : Fin k0_t2_loop.trips) (G : BufTy.Contents (Elt Ideal) arg11.view.ty)
    (L : List (View.Piece (Elt Ideal) S16384x256 .f32)) (ρ : Fin 16384) (l : Fin 256) :
    arg11.view.read (Elt Ideal) (arg11.view.writes (Elt Ideal) G
        (pieces11 arg1 arg5 arg13 arg16 v28 X1 X5 X13 X16 k ++ L)) (ix2 ρ l)
      = if 1024 * k.val ≤ ρ.val ∧ ρ.val < 1024 * k.val + 1024 then loopM arg1 arg5 arg13 arg16 v28 X1 X5 X13 X16 ρ l
        else arg11.view.read (Elt Ideal) (arg11.view.writes (Elt Ideal) G L) (ix2 ρ l) := by
  rw [read11_tiles]
  congr 1
  simp only [List.mem_cons, List.not_mem_nil, or_false, exists_eq_or_imp, exists_eq_left, eq_iff_iff, Fin.isValue, Fin.val_zero, Fin.val_one,
    Fin.val_two, show ((3 : Fin 4) : ℕ) = 3 from rfl]
  omega

/-- Group `gi`'s maxima at an index: over its 64 rows of that residue modulo 8, by absolute value, and zero. -/
theorem groupMax_apply (k : Fin k0_t2_loop.trips) (gi : Fin 2) (s : Fin 8) (l : Fin 256) :
    groupMax arg1 arg5 arg13 arg16 v28 X1 X5 X13 X16 k gi (ix2 s l)
      = max 0 ((Finset.range 64).sup fun p =>
          max (loopM arg1 arg5 arg13 arg16 v28 X1 X5 X13 X16 (rowAt (512 * (2 * k.val + gi.val) + 8 * p + s.val)) l)
            (-(loopM arg1 arg5 arg13 arg16 v28 X1 X5 X13 X16 (rowAt (512 * (2 * k.val + gi.val) + 8 * p + s.val)) l))) := by
  have hk := trips_lt k
  have hf : ∀ (t : Fin 4) (p : Fin 16),
      loopM arg1 arg5 arg13 arg16 v28 X1 X5 X13 X16 (rowAt (512 * (2 * k.val + gi.val) + 8 * (16 * t.val + p.val) + s.val)) l
        = loopTile arg1 arg5 arg13 arg16 v28 X1 X5 X13 X16 k gi t (ix2 ⟨8 * p.val + s.val, by omega⟩ l) := fun t p =>
    (tripTile_apply arg1 arg5 arg13 arg16 v28 X1 X5 X13 X16 k gi t _ l _ (by
      show (512 * (2 * k.val + gi.val) + 8 * (16 * t.val + p.val) + s.val) % 16384 = _ + (8 * p.val + s.val); omega)).symm
  refine amaxChain_step _ _ s l
    (fun n => loopM arg1 arg5 arg13 arg16 v28 X1 X5 X13 X16 (rowAt (512 * (2 * k.val + gi.val) + 8 * n + s.val)) l) 0 48 (hf 3) ?_
  refine amaxChain_step _ _ s l _ 0 32 (hf 2) ?_
  refine amaxChain_step _ _ s l _ 0 16 (hf 1) ?_
  refine amaxChain_step _ _ s l _ 0 0 (fun p => hf 0 p) ?_
  rw [Finset.range_zero, Finset.sup_empty, max_bot_right]
  exact Ideal.ofBits_zero_f32

/-- Group `gi`'s sums at an index: a running sum over the first `128 k + 64 gi` rows of that residue, carried 64 rows further. -/
theorem groupSum_apply (k : Fin k0_t2_loop.trips) (gi : Fin 2) (acc : FVec Ideal S8x256 .f32) (A : EReal) (s : Fin 8) (l : Fin 256)
    (hacc : acc (ix2 s l) = A + ∑ p ∈ Finset.range (128 * k.val + 64 * gi.val),
      loopM arg1 arg5 arg13 arg16 v28 X1 X5 X13 X16 (rowAt (8 * p + s.val)) l
        * loopM arg1 arg5 arg13 arg16 v28 X1 X5 X13 X16 (rowAt (8 * p + s.val)) l) :
    groupSum arg1 arg5 arg13 arg16 v28 X1 X5 X13 X16 k gi acc (ix2 s l)
      = A + ∑ p ∈ Finset.range (128 * k.val + 64 * gi.val + 16 + 16 + 16 + 16),
      loopM arg1 arg5 arg13 arg16 v28 X1 X5 X13 X16 (rowAt (8 * p + s.val)) l
        * loopM arg1 arg5 arg13 arg16 v28 X1 X5 X13 X16 (rowAt (8 * p + s.val)) l := by
  have hk := trips_lt k
  have hf : ∀ (t : Fin 4) (n : ℕ) (hn : n = 128 * k.val + 64 * gi.val + 16 * t.val) (p : Fin 16),
      loopM arg1 arg5 arg13 arg16 v28 X1 X5 X13 X16 (rowAt (8 * (n + p.val) + s.val)) l
        = loopTile arg1 arg5 arg13 arg16 v28 X1 X5 X13 X16 k gi t (ix2 ⟨8 * p.val + s.val, by omega⟩ l) := fun t n hn p =>
    (tripTile_apply arg1 arg5 arg13 arg16 v28 X1 X5 X13 X16 k gi t _ l _ (by
      show (8 * (n + p.val) + s.val) % 16384 = _ + (8 * p.val + s.val); omega)).symm
  refine ssChain_step _ _ s l
    (fun n => loopM arg1 arg5 arg13 arg16 v28 X1 X5 X13 X16 (rowAt (8 * n + s.val)) l) A _ (hf 3 _ (by show _ = _ + 16 * 3; omega)) ?_
  refine ssChain_step _ _ s l _ A _ (hf 2 _ (by show _ = _ + 16 * 2; omega)) ?_
  refine ssChain_step _ _ s l _ A _ (hf 1 _ (by show _ = _ + 16 * 1; omega)) ?_
  exact ssChain_step _ _ s l _ A _ (hf 0 _ (by show _ = _ + 16 * 0; omega)) hacc

/-- The byte of new codes at row `R` and column `c`, of merged rows `mo` and their rows of scales `q`. -/
def codeAt (mo : Fin 16384 → Fin 256 → EReal) (q : Fin 256 → Fin 256 → EReal) (R : Fin 1024) (c : Fin 2048) : BitVec 8 :=
  packByte
    (mo ⟨16 * (c.val / 2) + 4 * (c.val % 2) + R.val % 4, by omega⟩ ⟨R.val / 4, by omega⟩
      * q ⟨8 * (c.val / 64) + 4 * (c.val % 2) + R.val % 4, by omega⟩ ⟨R.val / 4, by omega⟩)
    (mo ⟨16 * (c.val / 2) + 8 + 4 * (c.val % 2) + R.val % 4, by omega⟩ ⟨R.val / 4, by omega⟩
      * q ⟨8 * (c.val / 64) + 4 * (c.val % 2) + R.val % 4, by omega⟩ ⟨R.val / 4, by omega⟩)

/-- Trip `k`'s code words hold the bytes of the new codes made of what arg11 held in the trip's rows. -/
theorem tripCodes_byte (k : Fin k0_t2_loop.trips) (f11 : BufTy.Contents (Elt Ideal) arg11.view.ty) (gi : Fin 2) (t : Fin 4) (w : Fin 16)
    (R : Fin 1024) (c : Fin 2048) (hc : c.val = 128 * k.val + 64 * gi.val + 16 * t.val + w.val) :
    (tripCodes arg11 arg12 X12 k f11 gi t (ix2 w ⟨R.val / 4, by omega⟩)).extractLsb' (8 * (R.val % 4)) 8
      = codeAt (fun ρ l => arg11.view.read (Elt Ideal) f11 (ix2 ρ l)) (fun r l => arg12.view.read (Elt Ideal) X12 (ix2 r l)) R c := by
  have hk := trips_lt k
  unfold tripCodes codeAt
  rw [codeTile_byte _ _ w ⟨R.val / 4, by omega⟩ ⟨R.val % 4, by omega⟩]
  congr 1
  · congr 1
    · refine readAt_at arg11.view f11 (k0_off5_inb k gi t) _ _ (off5_eq k gi t) fun a => ?_
      match a with
      | ⟨0, _⟩ =>
        show 16 * (c.val / 2) + 4 * (c.val % 2) + R.val % 4
          = 1024 * k.val + 512 * gi.val + 128 * t.val + (16 * (w.val / 2) + 4 * (w.val % 2) + R.val % 4)
        omega
      | ⟨1, _⟩ => exact (Nat.zero_add _).symm
    · refine readAt_at arg12.view X12 (k0_off4_inb k gi) _ _ (off4_eq k gi) fun a => ?_
      match a with
      | ⟨0, _⟩ =>
        show 8 * (c.val / 64) + 4 * (c.val % 2) + R.val % 4 = 8 * (2 * k.val + gi.val) + (4 * (w.val % 2) + R.val % 4)
        omega
      | ⟨1, _⟩ => exact (Nat.zero_add _).symm
  · congr 1
    · refine readAt_at arg11.view f11 (k0_off5_inb k gi t) _ _ (off5_eq k gi t) fun a => ?_
      match a with
      | ⟨0, _⟩ =>
        show 16 * (c.val / 2) + 8 + 4 * (c.val % 2) + R.val % 4
          = 1024 * k.val + 512 * gi.val + 128 * t.val + (16 * (w.val / 2) + 8 + 4 * (w.val % 2) + R.val % 4)
        omega
      | ⟨1, _⟩ => exact (Nat.zero_add _).symm
    · refine readAt_at arg12.view X12 (k0_off4_inb k gi) _ _ (off4_eq k gi) fun a => ?_
      match a with
      | ⟨0, _⟩ =>
        show 8 * (c.val / 64) + 4 * (c.val % 2) + R.val % 4 = 8 * (2 * k.val + gi.val) + (4 * (w.val % 2) + R.val % 4)
        omega
      | ⟨1, _⟩ => exact (Nat.zero_add _).symm

/-- The codes read after trip `k`: its 128 columns are there, the others as before it. -/
theorem read9_trip (k : Fin k0_t2_loop.trips) (f11 : BufTy.Contents (Elt Ideal) arg11.view.ty)
    (G : BufTy.Contents (Elt Ideal) arg9.view.ty) (L : List (View.Piece (Elt Ideal) S1x1024x2048 .i8)) (R : Fin 1024) (c : Fin 2048) :
    arg9.view.read (Elt Ideal) (arg9.view.writes (Elt Ideal) G (pieces9 arg11 arg12 X12 k f11 ++ L)) (ix3 0 R c)
      = if 128 * k.val ≤ c.val ∧ c.val < 128 * k.val + 128 then
          codeAt (fun ρ l => arg11.view.read (Elt Ideal) f11 (ix2 ρ l)) (fun r l => arg12.view.read (Elt Ideal) X12 (ix2 r l)) R c
        else arg9.view.read (Elt Ideal) (arg9.view.writes (Elt Ideal) G L) (ix3 0 R c) := by
  have hk := trips_lt k
  by_cases h : 128 * k.val ≤ c.val ∧ c.val < 128 * k.val + 128
  · rw [if_pos h]
    refine (View.read_writes_cons_unit_of_mem arg9.view G (k0_off2_inb k) _ L (ix3 0 R c)
      (ix3 0 R ⟨c.val - 128 * k.val, by omega⟩ : (⟨3, ![1, 1024, 128]⟩ : Shape).Idx) (off2_eq k) fun a => ?_).trans ?_
    · match a with
      | ⟨0, _⟩ => rfl
      | ⟨1, _⟩ => exact (Nat.zero_add _).symm
      | ⟨2, _⟩ => show c.val = 128 * k.val + (c.val - 128 * k.val); omega
    · refine (pay143_apply (fun i => tripCodes arg11 arg12 X12 k f11 ⟨i.val / 4, by omega⟩ ⟨i.val % 4, by omega⟩) R
        ⟨c.val - 128 * k.val, by omega⟩).trans ?_
      exact tripCodes_byte arg11 arg12 X12 k f11 _ _ _ R c (by
        show c.val = 128 * k.val + 64 * ((c.val - 128 * k.val) / 16 / 4) + 16 * ((c.val - 128 * k.val) / 16 % 4)
          + (c.val - 128 * k.val) % 16
        omega)
  · rw [if_neg h]
    refine View.read_writes_cons_unit_of_not_mem arg9.view G (k0_off2_inb k) _ L (ix3 0 R c) (off2_eq k) (2 : Fin 3) ?_
    show c.val < 128 * k.val ∨ 128 * k.val + 128 ≤ c.val
    omega

/-- The maxima read after trip `k`: its 16 rows are there, the others as before it. -/
theorem read14_trip (k : Fin k0_t2_loop.trips) (G : BufTy.Contents (Elt Ideal) arg14.view.ty)
    (L : List (View.Piece (Elt Ideal) S256x256 .f32)) (r : Fin 256) (l : Fin 256) :
    arg14.view.read (Elt Ideal) (arg14.view.writes (Elt Ideal) G
        (piece14 arg1 arg5 arg13 arg16 v28 X1 X5 X13 X16 k 1 :: piece14 arg1 arg5 arg13 arg16 v28 X1 X5 X13 X16 k 0 :: L)) (ix2 r l)
      = if 16 * k.val ≤ r.val ∧ r.val < 16 * k.val + 16 then
          max 0 ((Finset.range 64).sup fun p =>
            max (loopM arg1 arg5 arg13 arg16 v28 X1 X5 X13 X16 (rowAt (512 * (r.val / 8) + 8 * p + r.val % 8)) l)
              (-(loopM arg1 arg5 arg13 arg16 v28 X1 X5 X13 X16 (rowAt (512 * (r.val / 8) + 8 * p + r.val % 8)) l)))
        else arg14.view.read (Elt Ideal) (arg14.view.writes (Elt Ideal) G L) (ix2 r l) := by
  have hk := trips_lt k
  have hit : ∀ (gi : Fin 2) (L' : List (View.Piece (Elt Ideal) S256x256 .f32)),
      16 * k.val + 8 * gi.val ≤ r.val → r.val < 16 * k.val + 8 * gi.val + 8 →
      arg14.view.read (Elt Ideal) (arg14.view.writes (Elt Ideal) G (piece14 arg1 arg5 arg13 arg16 v28 X1 X5 X13 X16 k gi :: L')) (ix2 r l)
        = max 0 ((Finset.range 64).sup fun p =>
            max (loopM arg1 arg5 arg13 arg16 v28 X1 X5 X13 X16 (rowAt (512 * (r.val / 8) + 8 * p + r.val % 8)) l)
              (-(loopM arg1 arg5 arg13 arg16 v28 X1 X5 X13 X16 (rowAt (512 * (r.val / 8) + 8 * p + r.val % 8)) l))) := by
    intro gi L' h0 h1
    refine (View.read_writes_cons_rows_of_mem arg14.view G (k0_off4_inb k gi) _ _ (ix2 r l)
      (ix2 ⟨r.val % 8, by omega⟩ l : (⟨2, ![8, 256]⟩ : Shape).Idx) (off4_eq k gi)
      (by show r.val = 8 * (2 * k.val + gi.val) + r.val % 8; omega) rfl).trans ?_
    refine (show _ = groupMax arg1 arg5 arg13 arg16 v28 X1 X5 X13 X16 k gi (ix2 ⟨r.val % 8, by omega⟩ l) by pointwise).trans ?_
    rw [groupMax_apply]
    have e : 2 * k.val + gi.val = r.val / 8 := by omega
    rw [e]
  have miss : ∀ (gi : Fin 2) (L' : List (View.Piece (Elt Ideal) S256x256 .f32)),
      ¬ (16 * k.val + 8 * gi.val ≤ r.val ∧ r.val < 16 * k.val + 8 * gi.val + 8) →
      arg14.view.read (Elt Ideal) (arg14.view.writes (Elt Ideal) G (piece14 arg1 arg5 arg13 arg16 v28 X1 X5 X13 X16 k gi :: L')) (ix2 r l)
        = arg14.view.read (Elt Ideal) (arg14.view.writes (Elt Ideal) G L') (ix2 r l) := fun gi L' h =>
    View.read_writes_cons_rows_of_not_mem arg14.view G (k0_off4_inb k gi) _ _ (ix2 r l)
      (off4_eq k gi) (W := 8) rfl (by show r.val < 8 * (2 * k.val + gi.val) ∨ 8 * (2 * k.val + gi.val) + 8 ≤ r.val; omega)
  by_cases h : 16 * k.val ≤ r.val ∧ r.val < 16 * k.val + 16
  · rw [if_pos h]
    by_cases h1 : 16 * k.val + 8 ≤ r.val
    · exact hit 1 _ h1 (by show r.val < 16 * k.val + 8 * 1 + 8; omega)
    · rw [miss 1 _ (by show ¬ (16 * k.val + 8 * 1 ≤ r.val ∧ _); omega)]
      exact hit 0 _ (by show 16 * k.val + 8 * 0 ≤ r.val; omega) (by show r.val < 16 * k.val + 8 * 0 + 8; omega)
  · rw [if_neg h, miss 1 _ (by show ¬ (16 * k.val + 8 * 1 ≤ r.val ∧ r.val < 16 * k.val + 8 * 1 + 8); omega),
      miss 0 _ (by show ¬ (16 * k.val + 8 * 0 ≤ r.val ∧ r.val < 16 * k.val + 8 * 0 + 8); omega)]

variable (L : ℕ → List (View.Piece (Elt Ideal) S1x1024x2048 .i8) × List (View.Piece (Elt Ideal) S16384x256 .f32)
    × List (View.Piece (Elt Ideal) S256x256 .f32) × List (View.Piece (Elt Ideal) S8x256 .f32))
  (G9 : BufTy.Contents (Elt Ideal) arg9.view.ty) (G11 : BufTy.Contents (Elt Ideal) arg11.view.ty)
  (G14 : BufTy.Contents (Elt Ideal) arg14.view.ty) (G15 : BufTy.Contents (Elt Ideal) arg15.view.ty)

/-- `L n` lists the stores of the first `n` trips, the last first, to the four buffers that the loop writes. -/
def LoopPieces : Prop :=
  L 0 = ([], [], [], []) ∧ ∀ k : Fin k0_t2_loop.trips, L (k.val + 1)
    = (pieces9 arg11 arg12 X12 k (arg11.view.writes (Elt Ideal) G11 (L k.val).2.1) ++ (L k.val).1,
      pieces11 arg1 arg5 arg13 arg16 v28 X1 X5 X13 X16 k ++ (L k.val).2.1,
      [piece14 arg1 arg5 arg13 arg16 v28 X1 X5 X13 X16 k 1, piece14 arg1 arg5 arg13 arg16 v28 X1 X5 X13 X16 k 0] ++ (L k.val).2.2.1,
      pieces15 arg1 arg5 arg13 arg15 arg16 v28 X1 X5 X13 X16 k (arg15.view.writes (Elt Ideal) G15 (L k.val).2.2.2) ++ (L k.val).2.2.2)

variable (hL : LoopPieces arg1 arg5 arg11 arg12 arg13 arg15 arg16 v28 X1 X5 X12 X13 X16 L G11 G15)
include hL

/-- The merged rows after `n` trips. -/
theorem loop11 (n : ℕ) (hn : n ≤ 16) (ρ : Fin 16384) (l : Fin 256) :
    arg11.view.read (Elt Ideal) (arg11.view.writes (Elt Ideal) G11 (L n).2.1) (ix2 ρ l)
      = if ρ.val < 1024 * n then loopM arg1 arg5 arg13 arg16 v28 X1 X5 X13 X16 ρ l else arg11.view.read (Elt Ideal) G11 (ix2 ρ l) := by
  induction n with
  | zero => rw [hL.1, if_neg (by omega)]; rfl
  | succ n ih =>
    rw [hL.2 ⟨n, by show n < 16; omega⟩]
    refine (read11_trip arg1 arg5 arg11 arg13 arg16 v28 X1 X5 X13 X16 ⟨n, by show n < 16; omega⟩ G11 (L n).2.1 ρ l).trans ?_
    rw [ih (by omega)]
    show (if 1024 * n ≤ ρ.val ∧ ρ.val < 1024 * n + 1024 then _ else if ρ.val < 1024 * n then _ else _) = _
    split_ifs <;> first | rfl | omega

/-- The codes after `n` trips. -/
theorem loop9 (n : ℕ) (hn : n ≤ 16) (R : Fin 1024) (c : Fin 2048) :
    arg9.view.read (Elt Ideal) (arg9.view.writes (Elt Ideal) G9 (L n).1) (ix3 0 R c)
      = if c.val < 128 * n then
          codeAt (fun ρ l => arg11.view.read (Elt Ideal) G11 (ix2 ρ l)) (fun r l => arg12.view.read (Elt Ideal) X12 (ix2 r l)) R c
        else arg9.view.read (Elt Ideal) G9 (ix3 0 R c) := by
  induction n with
  | zero => rw [hL.1, if_neg (by omega)]; rfl
  | succ n ih =>
    rw [hL.2 ⟨n, by show n < 16; omega⟩]
    refine (read9_trip arg9 arg11 arg12 X12 ⟨n, by show n < 16; omega⟩ _ G9 (L n).1 R c).trans ?_
    rw [ih (by omega)]
    show (if 128 * n ≤ c.val ∧ c.val < 128 * n + 128 then _ else if c.val < 128 * n then _ else _) = _
    by_cases h : 128 * n ≤ c.val ∧ c.val < 128 * n + 128
    · rw [if_pos h, if_pos (by omega)]
      unfold codeAt
      simp only [loop11 arg1 arg5 arg11 arg12 arg13 arg15 arg16 v28 X1 X5 X12 X13 X16 L G11 G15 hL n (by omega)]
      rw [if_neg (by show ¬ 16 * (c.val / 2) + 4 * (c.val % 2) + R.val % 4 < 1024 * n; omega),
        if_neg (by show ¬ 16 * (c.val / 2) + 8 + 4 * (c.val % 2) + R.val % 4 < 1024 * n; omega)]
    · rw [if_neg h]
      split_ifs <;> first | rfl | omega

/-- The maxima after `n` trips. -/
theorem loop14 (n : ℕ) (hn : n ≤ 16) (r : Fin 256) (l : Fin 256) :
    arg14.view.read (Elt Ideal) (arg14.view.writes (Elt Ideal) G14 (L n).2.2.1) (ix2 r l)
      = if r.val < 16 * n then
          max 0 ((Finset.range 64).sup fun p =>
            max (loopM arg1 arg5 arg13 arg16 v28 X1 X5 X13 X16 (rowAt (512 * (r.val / 8) + 8 * p + r.val % 8)) l)
              (-(loopM arg1 arg5 arg13 arg16 v28 X1 X5 X13 X16 (rowAt (512 * (r.val / 8) + 8 * p + r.val % 8)) l)))
        else arg14.view.read (Elt Ideal) G14 (ix2 r l) := by
  induction n with
  | zero => rw [hL.1, if_neg (by omega)]; rfl
  | succ n ih =>
    rw [hL.2 ⟨n, by show n < 16; omega⟩]
    refine (read14_trip arg1 arg5 arg13 arg14 arg16 v28 X1 X5 X13 X16 ⟨n, by show n < 16; omega⟩ G14 (L n).2.2.1 r l).trans ?_
    rw [ih (by omega)]
    show (if 16 * n ≤ r.val ∧ r.val < 16 * n + 16 then _ else if r.val < 16 * n then _ else _) = _
    split_ifs <;> first | rfl | omega

/-- The sums of squares after `n` trips. -/
theorem loop15 (n : ℕ) (hn : n ≤ 16) (s : Fin 8) (l : Fin 256) :
    arg15.view.read (Elt Ideal) (arg15.view.writes (Elt Ideal) G15 (L n).2.2.2) (ix2 s l)
      = arg15.view.read (Elt Ideal) G15 (ix2 s l) + ∑ p ∈ Finset.range (128 * n),
          loopM arg1 arg5 arg13 arg16 v28 X1 X5 X13 X16 (rowAt (8 * p + s.val)) l * loopM arg1 arg5 arg13 arg16 v28 X1 X5 X13 X16 (rowAt (8 * p + s.val)) l := by
  induction n with
  | zero =>
    rw [hL.1]
    exact (add_zero _).symm
  | succ n ih =>
    rw [hL.2 ⟨n, by show n < 16; omega⟩]
    refine (congrFun (View.read_writes_full arg15.view G15 inb_S8x256_S8x256_0_0 _ _) (ix2 s l)).trans ?_
    refine (show _ = groupSum arg1 arg5 arg13 arg16 v28 X1 X5 X13 X16 ⟨n, by show n < 16; omega⟩ 1 (groupSum arg1 arg5 arg13 arg16 v28 X1 X5 X13 X16 ⟨n, by show n < 16; omega⟩ 0
      (View.readAt (Elt Ideal) arg15.view (Rect.unit (s := S8x256) ![0, 0] S8x256.size inb_S8x256_S8x256_0_0).toLoadRect
        (arg15.view.writes (Elt Ideal) G15 (L n).2.2.2))) (ix2 s l) by pointwise).trans ?_
    refine groupSum_apply arg1 arg5 arg13 arg16 v28 X1 X5 X13 X16 _ 1 _ (arg15.view.read (Elt Ideal) G15 (ix2 s l)) s l ?_
    refine groupSum_apply arg1 arg5 arg13 arg16 v28 X1 X5 X13 X16 _ 0 _ (arg15.view.read (Elt Ideal) G15 (ix2 s l)) s l ?_
    exact (congrFun (View.readAt_full arg15.view _ inb_S8x256_S8x256_0_0) (ix2 s l)).trans (ih (by omega))

end Loop

end Cert.KernelIdeal.Hand
-- ==== Proof.KernelIdeal.Step.lean ====
module
public import proofs.«01_k».proof.Proof.KernelIdeal.Loop
public import Idealize.ShloMosaic.Lib.WritesUnit
public import Idealize.ShloMosaic.Lib.VecWindow
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem

section Pieces

variable (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (v28 : Vec Ideal S128x128 .bf16)
    (X1 : BufTy.Contents (Elt Ideal) arg1.view.ty) (X5 : BufTy.Contents (Elt Ideal) arg5.view.ty) (X12 : BufTy.Contents (Elt Ideal) arg12.view.ty)
    (X13 : BufTy.Contents (Elt Ideal) arg13.view.ty) (X16 : BufTy.Contents (Elt Ideal) arg16.view.ty)

set_option maxHeartbeats 2000000 in
/-- What trip `k` stores of codes. -/
theorem trip9 (k : Fin k0_t2_loop.trips) (g9 : BufTy.Contents (Elt Ideal) arg9.view.ty) (g11 : BufTy.Contents (Elt Ideal) arg11.view.ty)
    (g14 : BufTy.Contents (Elt Ideal) arg14.view.ty) (g15 : BufTy.Contents (Elt Ideal) arg15.view.ty) :
    (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k).1 g9 g11 g14 g15 = pieces9 arg11 arg12 X12 k g11 := by
  unfold trip_k0_t2
  dsimp only
  rfl

set_option maxHeartbeats 2000000 in
/-- What trip `k` stores of merged rows. -/
theorem trip11 (k : Fin k0_t2_loop.trips) (g9 : BufTy.Contents (Elt Ideal) arg9.view.ty) (g11 : BufTy.Contents (Elt Ideal) arg11.view.ty)
    (g14 : BufTy.Contents (Elt Ideal) arg14.view.ty) (g15 : BufTy.Contents (Elt Ideal) arg15.view.ty) :
    (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k).2.1 g9 g11 g14 g15 = pieces11 arg1 arg5 arg13 arg16 v28 X1 X5 X13 X16 k := by
  unfold trip_k0_t2
  dsimp only
  rfl

set_option maxHeartbeats 2000000 in
/-- What trip `k` stores of maxima. -/
theorem trip14 (k : Fin k0_t2_loop.trips) (g9 : BufTy.Contents (Elt Ideal) arg9.view.ty) (g11 : BufTy.Contents (Elt Ideal) arg11.view.ty)
    (g14 : BufTy.Contents (Elt Ideal) arg14.view.ty) (g15 : BufTy.Contents (Elt Ideal) arg15.view.ty) :
    (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k).2.2.1 g9 g11 g14 g15 = [piece14 arg1 arg5 arg13 arg16 v28 X1 X5 X13 X16 k 1, piece14 arg1 arg5 arg13 arg16 v28 X1 X5 X13 X16 k 0] := by
  unfold trip_k0_t2
  dsimp only
  rfl

set_option maxHeartbeats 2000000 in
/-- What trip `k` stores of sums of squares. -/
theorem trip15 (k : Fin k0_t2_loop.trips) (g9 : BufTy.Contents (Elt Ideal) arg9.view.ty) (g11 : BufTy.Contents (Elt Ideal) arg11.view.ty)
    (g14 : BufTy.Contents (Elt Ideal) arg14.view.ty) (g15 : BufTy.Contents (Elt Ideal) arg15.view.ty) :
    (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k).2.2.2.1 g9 g11 g14 g15 = pieces15 arg1 arg5 arg13 arg15 arg16 v28 X1 X5 X13 X16 k g15 := by
  unfold trip_k0_t2
  dsimp only
  rfl

variable (G9 : BufTy.Contents (Elt Ideal) arg9.view.ty)
    (G11 : BufTy.Contents (Elt Ideal) arg11.view.ty) (G14 : BufTy.Contents (Elt Ideal) arg14.view.ty) (G15 : BufTy.Contents (Elt Ideal) arg15.view.ty)

/-- The main loop's stores are the pieces that `LoopPieces` lists. -/
theorem loopPieces :
    LoopPieces arg1 arg5 arg11 arg12 arg13 arg15 arg16 v28 X1 X5 X12 X13 X16
      (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) G11 G15 := by
  refine ⟨rfl, fun k => (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15 k).trans ?_⟩
  exact Prod.ext (congrArg (· ++ _) (trip9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k _ _ _ _)) (Prod.ext (congrArg (· ++ _) (trip11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k _ _ _ _))
    (Prod.ext (congrArg (· ++ _) (trip14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k _ _ _ _)) (congrArg (· ++ _) (trip15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 k _ _ _ _))))

end Pieces

/-- The merged row `ρ` at lane `l` of the block whose operands are the `x`s. -/
def stepM (x1 : Vec Ideal S1x1024x2048 .i8) (x2 x3 : Vec Ideal S1x256x128 .bf16) (x5 : Vec Ideal S1x16384x128 .bf16)
    (x6 : Vec Ideal S128x128 .bf16) (x7 : Vec Ideal S256x128 .bf16) (ρ : Fin 16384) (l : Fin 256) : EReal :=
  mAt x1 x5 x6 (k0_pay138 x7 x2) (k0_pay139 x3) ρ l

/-- The running sums of squares after the loop: row `s`, lane `l` sums over the rows that are `s` modulo 8. -/
def sumSq (M : Fin 16384 → Fin 256 → EReal) : Vec Ideal S8x256 .f32 := fun ix =>
  ∑ p ∈ Finset.range 2048, M (rowAt (8 * p + (ix 0).val)) (ix 1) * M (rowAt (8 * p + (ix 0).val)) (ix 1)

/-- The maxima after the loop: row `8g+s`, lane `l` is over the rows of group `g` that are `s` modulo 8. -/
def absMax (M : Fin 16384 → Fin 256 → EReal) : Vec Ideal S256x256 .f32 := fun ix =>
  max 0 ((Finset.range 64).sup fun p =>
    max (M (rowAt (512 * ((ix 0).val / 8) + 8 * p + (ix 0).val % 8)) (ix 1))
      (-(M (rowAt (512 * ((ix 0).val / 8) + 8 * p + (ix 0).val % 8)) (ix 1))))

/-- The block's scales, in the layout of the output window. -/
def stepScale (M : Fin 16384 → Fin 256 → EReal) (x4 : Vec Ideal S1x4x256 .f32) (x8 : Vec Ideal S128x256 .bf16) : Vec Ideal S1x256x128 .bf16 :=
  k0_pay2 (k0_pay146 (F := Ideal) (sumSq M) x4 x4 (absMax M)) x8

/-- What the next step multiplies the block's merged rows by. -/
def stepQ (M : Fin 16384 → Fin 256 → EReal) (x4 : Vec Ideal S1x4x256 .f32) : Vec Ideal S256x256 .f32 :=
  k0_pay1 (F := Ideal) (k0_pay147 (F := Ideal) (sumSq M) x4 x4 (absMax M))

/-- The merged rows as the scratch buffer holds them. -/
def rowsVec (M : Fin 16384 → Fin 256 → EReal) : Vec Ideal S16384x256 .f32 := fun ix => M (ix 0) (ix 1)

/-- The codes of the block whose merged rows and multipliers are `y` and `q`, in the layout of the output window. -/
def codesVec (y : Vec Ideal S16384x256 .f32) (q : Vec Ideal S256x256 .f32) : Vec Ideal S1x1024x2048 .i8 := fun ix =>
  codeAt (fun ρ l => y (ix2 ρ l)) (fun r l => q (ix2 r l)) (ix 1) (ix 2)

theorem trips16 : Scf.trips (0#32) (Scalar.addi 0#32 16#32) 1#32 = 16 := by decide

theorem pay140_zero (s : Fin 8) (l : Fin 256) : k0_pay140 (F := Ideal) (ix2 s l) = 0 := Ideal.ofBits_zero_f32

theorem pay136_zero (s : Fin 256) (l : Fin 256) : k0_pay136 (F := Ideal) (ix2 s l) = 0 := Ideal.ofBits_zero_f32

section AfterLoop

variable (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (v28 : Vec Ideal S128x128 .bf16)
    (X1 : BufTy.Contents (Elt Ideal) arg1.view.ty) (X5 : BufTy.Contents (Elt Ideal) arg5.view.ty) (X12 : BufTy.Contents (Elt Ideal) arg12.view.ty)
    (X13 : BufTy.Contents (Elt Ideal) arg13.view.ty) (X16 : BufTy.Contents (Elt Ideal) arg16.view.ty)
    (G9 : BufTy.Contents (Elt Ideal) arg9.view.ty) (G11 : BufTy.Contents (Elt Ideal) arg11.view.ty) (G14 : BufTy.Contents (Elt Ideal) arg14.view.ty) (G15 : BufTy.Contents (Elt Ideal) arg15.view.ty)

/-- The merged rows that the loop leaves. -/
theorem after11 : arg11.view.read (Elt Ideal) (arg11.view.writes (Elt Ideal) G11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15 (Scf.trips (0#32) (Scalar.addi 0#32 16#32) 1#32)).2.1) = rowsVec (loopM arg1 arg5 arg13 arg16 v28 X1 X5 X13 X16) := by
  funext ix
  rw [eq_ix2 ix]
  exact (loop11 arg1 arg5 arg11 arg12 arg13 arg15 arg16 v28 X1 X5 X12 X13 X16 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) G11 G15 (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) 16 le_rfl (ix 0) (ix 1)).trans (if_pos (show (ix 0).val < 1024 * 16 from (ix 0).isLt))

/-- The codes that the loop leaves. -/
theorem after9 : arg9.view.read (Elt Ideal) (arg9.view.writes (Elt Ideal) G9 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15 (Scf.trips (0#32) (Scalar.addi 0#32 16#32) 1#32)).1)
    = codesVec (arg11.view.read (Elt Ideal) G11) (arg12.view.read (Elt Ideal) X12) := by
  funext ix
  obtain ⟨R, c', rfl⟩ : ∃ (R : Fin 1024) (c' : Fin 2048), ix = ix3 0 R c' :=
    ⟨ix 1, ix 2, (eq_ix3 ix).trans (congrArg (fun z : Fin 1 => ix3 z (ix 1) (ix 2)) (Subsingleton.elim (α := Fin 1) _ _))⟩
  exact (loop9 arg1 arg5 arg9 arg11 arg12 arg13 arg15 arg16 v28 X1 X5 X12 X13 X16 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) G9 G11 G15 (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) 16 le_rfl R c').trans
    (if_pos (show c'.val < 128 * 16 from c'.isLt))

/-- The maxima that the loop leaves. -/
theorem after14 : arg14.view.read (Elt Ideal) (arg14.view.writes (Elt Ideal) G14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15 (Scf.trips (0#32) (Scalar.addi 0#32 16#32) 1#32)).2.2.1) = absMax (loopM arg1 arg5 arg13 arg16 v28 X1 X5 X13 X16) := by
  funext ix
  rw [eq_ix2 ix]
  exact (loop14 arg1 arg5 arg11 arg12 arg13 arg14 arg15 arg16 v28 X1 X5 X12 X13 X16 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) G11 G14 G15 (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) 16 le_rfl (ix 0) (ix 1)).trans
    (if_pos (show (ix 0).val < 16 * 16 from (ix 0).isLt))

/-- The sums of squares that the loop leaves, from zeros. -/
theorem after15 (hz : ∀ (s : Fin 8) (l : Fin 256), arg15.view.read (Elt Ideal) G15 (ix2 s l) = 0) :
    arg15.view.read (Elt Ideal) (arg15.view.writes (Elt Ideal) G15 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15 (Scf.trips (0#32) (Scalar.addi 0#32 16#32) 1#32)).2.2.2) = sumSq (loopM arg1 arg5 arg13 arg16 v28 X1 X5 X13 X16) := by
  funext ix
  obtain ⟨s, l, rfl⟩ : ∃ (s : Fin 8) (l : Fin 256), ix = ix2 s l := ⟨ix 0, ix 1, eq_ix2 ix⟩
  refine (loop15 arg1 arg5 arg11 arg12 arg13 arg15 arg16 v28 X1 X5 X12 X13 X16 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) G11 G15 (loopPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 X1 X5 X12 X13 X16 G9 G11 G14 G15) 16 le_rfl s l).trans ?_
  rw [hz, zero_add]
  rfl

end AfterLoop

/-- The permutation, as the body reads it. -/
abbrev permAt (arg6 : Memref sig .tc .vmem S128x128 .bf16) (f6 : BufTy.Contents (Elt Ideal) arg6.view.ty) : Vec Ideal S128x128 .bf16 :=
  arg6.view.readAt (Elt Ideal) (Rect.unit (s := S128x128) ![0, 0] ![128, 128] inb_S128x128_S128x128_0_0).toLoadRect f6

/-- The scale rows that the body stores, read back. -/
theorem read13 (arg2 : Memref sig .tc .vmem S1x256x128 .bf16) (arg7 : Memref sig .tc .vmem S256x128 .bf16) (arg13 : Memref sig .tc .vmem S256x2x256 .bf16)
    (f2 : BufTy.Contents (Elt Ideal) arg2.view.ty) (f7 : BufTy.Contents (Elt Ideal) arg7.view.ty) (f13 : BufTy.Contents (Elt Ideal) arg13.view.ty) :
    arg13.view.read (Elt Ideal) (arg13.view.writes (Elt Ideal) f13 [⟨Rect.unit ![0, 0, 0] S256x2x256.size inb_S256x2x256_S256x2x256_0_0_0,
      k0_pay138 (arg7.view.readAt (Elt Ideal) (Rect.unit (s := S256x128) ![0, 0] S256x128.size inb_S256x128_S256x128_0_0).toLoadRect f7)
        (arg2.view.readAt (Elt Ideal) (Rect.unit (s := S1x256x128) ![0, 0, 0] S1x256x128.size inb_S1x256x128_S1x256x128_0_0_0).toLoadRect f2)⟩])
      = k0_pay138 (arg7.view.read (Elt Ideal) f7) (arg2.view.read (Elt Ideal) f2) :=
  (View.read_writes_full arg13.view f13 inb_S256x2x256_S256x2x256_0_0_0 _ []).trans
    (congr (congrArg k0_pay138 (View.readAt_full arg7.view f7 _)) (View.readAt_full arg2.view f2 _))

/-- The transposed low-rank rows that the body stores, read back. -/
theorem read16 (arg3 : Memref sig .tc .vmem S1x256x128 .bf16) (arg16 : Memref sig .tc .vmem S128x256 .bf16)
    (f3 : BufTy.Contents (Elt Ideal) arg3.view.ty) (f16 : BufTy.Contents (Elt Ideal) arg16.view.ty) :
    arg16.view.read (Elt Ideal) (arg16.view.writes (Elt Ideal) f16 [⟨Rect.unit ![0, 0] S128x256.size inb_S128x256_S128x256_0_0,
      k0_pay139 (arg3.view.readAt (Elt Ideal) (Rect.unit (s := S1x256x128) ![0, 0, 0] S1x256x128.size inb_S1x256x128_S1x256x128_0_0_0).toLoadRect f3)⟩])
      = k0_pay139 (arg3.view.read (Elt Ideal) f3) :=
  (View.read_writes_full arg16.view f16 inb_S128x256_S128x256_0_0 _ []).trans (congrArg k0_pay139 (View.readAt_full arg3.view f3 _))

/-- What the loop merges is the block's merged rows. -/
theorem loopM_eq (arg1 : Memref sig .tc .vmem S1x1024x2048 .i8) (arg2 : Memref sig .tc .vmem S1x256x128 .bf16) (arg3 : Memref sig .tc .vmem S1x256x128 .bf16)
    (arg5 : Memref sig .tc .vmem S1x16384x128 .bf16) (arg6 : Memref sig .tc .vmem S128x128 .bf16) (arg7 : Memref sig .tc .vmem S256x128 .bf16)
    (arg13 : Memref sig .tc .vmem S256x2x256 .bf16) (arg16 : Memref sig .tc .vmem S128x256 .bf16)
    (f1 : BufTy.Contents (Elt Ideal) arg1.view.ty) (f2 : BufTy.Contents (Elt Ideal) arg2.view.ty) (f3 : BufTy.Contents (Elt Ideal) arg3.view.ty)
    (f5 : BufTy.Contents (Elt Ideal) arg5.view.ty) (f6 : BufTy.Contents (Elt Ideal) arg6.view.ty) (f7 : BufTy.Contents (Elt Ideal) arg7.view.ty)
    (X13 : BufTy.Contents (Elt Ideal) arg13.view.ty) (X16 : BufTy.Contents (Elt Ideal) arg16.view.ty)
    (h13 : arg13.view.read (Elt Ideal) X13 = k0_pay138 (arg7.view.read (Elt Ideal) f7) (arg2.view.read (Elt Ideal) f2))
    (h16 : arg16.view.read (Elt Ideal) X16 = k0_pay139 (arg3.view.read (Elt Ideal) f3)) :
    loopM arg1 arg5 arg13 arg16 (permAt arg6 f6) f1 f5 X13 X16
      = stepM (arg1.view.read (Elt Ideal) f1) (arg2.view.read (Elt Ideal) f2) (arg3.view.read (Elt Ideal) f3) (arg5.view.read (Elt Ideal) f5)
        (arg6.view.read (Elt Ideal) f6) (arg7.view.read (Elt Ideal) f7) := by
  funext ρ l
  unfold loopM stepM
  rw [h13, h16]
  exact congrArg (fun z => mAt _ _ z _ _ ρ l) (View.readAt_full arg6.view f6 _)

/-- The sums start at zero. -/
theorem read15_zero (arg15 : Memref sig .tc .vmem S8x256 .f32) (f15 : BufTy.Contents (Elt Ideal) arg15.view.ty) (s : Fin 8) (l : Fin 256) :
    arg15.view.read (Elt Ideal) (arg15.view.writes (Elt Ideal) f15 [⟨Rect.unit ![0, 0] S8x256.size inb_S8x256_S8x256_0_0, k0_pay140 (F := Ideal)⟩]) (ix2 s l) = 0 :=
  (congrFun (View.read_writes_full arg15.view f15 inb_S8x256_S8x256_0_0 _ []) _).trans (pay140_zero s l)

end Cert.KernelIdeal.Hand
-- ==== Proof.KernelIdeal.Spec.lean ====
/- The merge and the requantisation of one weight row, as plain mathematics over extended reals, and the laws that carry a factor through them. -/
module

public import proofs.«01_k».proof.Proof.KernelIdeal.Trip
public import Idealize.ShloMosaic.Lib.IdealHost

@[expose] public section

noncomputable section

namespace Cert.KernelIdeal.Hand

open Idealize.ShloMosaic Idealize.ShloMosaic.Tactic

/-- One element of the merged row: the code's nibble `e` of byte `c` times its group's scale, plus two thirds of the low-rank product. -/
def mergeAt (cd : Fin 2048 → BitVec 8) (sc : Fin 32 → EReal) (lb : Fin 24 → EReal) (la : Fin 24 → Fin 4096 → EReal) (c : Fin 2048) (e : Fin 2) : EReal :=
  codeVal ((cd c).extractLsb' (4 * e.val) 4) * sc ⟨c.val / 64, by omega⟩
    + ((2 / 3 : ℝ) : EReal) * ∑ r : Fin 24, lb r * la r ⟨2 * c.val + e.val, by omega⟩

/-- The row's squared norm. -/
def rowNorm2 (M : Fin 2048 → Fin 2 → EReal) : EReal := ∑ c, M c 0 * M c 0 + ∑ c, M c 1 * M c 1

/-- The row's factor: its magnitude over its norm. -/
def rowFac (M : Fin 2048 → Fin 2 → EReal) (mag : EReal) : EReal := Ideal.div mag (Ideal.sqrt (rowNorm2 M))

/-- Byte `k` of group `g`. -/
def grpCol (g : Fin 32) (k : Fin 64) : Fin 2048 := ⟨g.val * 64 + k.val, by omega⟩

/-- The largest absolute value in group `g` of the scaled row. -/
def rowMax (M : Fin 2048 → Fin 2 → EReal) (f : EReal) (g : Fin 32) : EReal :=
  max (Finset.univ.sup fun k : Fin 64 => max (M (grpCol g k) 0 * f) (-(M (grpCol g k) 0 * f)))
    (Finset.univ.sup fun k : Fin 64 => max (M (grpCol g k) 1 * f) (-(M (grpCol g k) 1 * f)))

/-- The scale made of a group's largest absolute value. -/
def scaleOf (a : EReal) : EReal := if 0 < a then Ideal.div a (Ideal.ofBits .f32 0x40E00000#32) else 1

/-- The new scale of group `g`. -/
def rowScale (M : Fin 2048 → Fin 2 → EReal) (mag : EReal) (g : Fin 32) : EReal := scaleOf (rowMax M (rowFac M mag) g)

/-- The byte of new codes at byte `c`. -/
def rowByte (M : Fin 2048 → Fin 2 → EReal) (mag : EReal) (c : Fin 2048) : BitVec 8 :=
  packByte (Ideal.div (M c 0 * rowFac M mag) (rowScale M mag ⟨c.val / 64, by omega⟩))
    (Ideal.div (M c 1 * rowFac M mag) (rowScale M mag ⟨c.val / 64, by omega⟩))

theorem ofBits_seven : Ideal.ofBits .f32 0x40E00000#32 = ((7 : ℝ) : EReal) := by
  simp [Ideal.ofBits, Ideal.ieee, -EReal.coe_mul]; norm_num
theorem ofBits_neg_seven : Ideal.ofBits .f32 0xC0E00000#32 = ((-7 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_24 : Ideal.ofBits .f32 0x41C00000#32 = ((24 : ℝ) : EReal) := by
  simp [Ideal.ofBits, Ideal.ieee, -EReal.coe_mul]; norm_num
theorem ofBits_three_halves : Ideal.ofBits .bf16 0x3FC0#16 = ((3 / 2 : ℝ) : EReal) := by
  simp [Ideal.ofBits, Ideal.ieee, -EReal.coe_mul]; norm_num
theorem ofBits_bot : Ideal.ofBits .f32 0xFF800000#32 = ⊥ := by
  simp [Ideal.ofBits, Ideal.ieee]

theorem sq_nonneg' (x : EReal) : 0 ≤ x * x := by
  induction x <;> simp [← EReal.coe_mul, mul_self_nonneg]

theorem sq_eq_zero {x : EReal} (h : x * x = 0) : x = 0 := by
  simpa using h

theorem rowNorm2_nonneg (M) : 0 ≤ rowNorm2 M :=
  add_nonneg (Finset.sum_nonneg fun c _ => sq_nonneg' _) (Finset.sum_nonneg fun c _ => sq_nonneg' _)

/-- A row of norm zero is zero. -/
theorem eq_zero_of_norm (M) (h : rowNorm2 M = 0) (c : Fin 2048) (e : Fin 2) : M c e = 0 := by
  have h0 : (0 : EReal) ≤ ∑ c, M c 0 * M c 0 := Finset.sum_nonneg fun c _ => sq_nonneg' _
  have h1 : (0 : EReal) ≤ ∑ c, M c 1 * M c 1 := Finset.sum_nonneg fun c _ => sq_nonneg' _
  have hz := (add_eq_zero_iff_of_nonneg h0 h1).1 h
  match e with
  | ⟨0, _⟩ => exact sq_eq_zero ((Finset.sum_eq_zero_iff_of_nonneg fun c _ => sq_nonneg' _).1 hz.1 c (Finset.mem_univ _))
  | ⟨1, _⟩ => exact sq_eq_zero ((Finset.sum_eq_zero_iff_of_nonneg fun c _ => sq_nonneg' _).1 hz.2 c (Finset.mem_univ _))

theorem sqrt_scale (y : EReal) (h : 0 ≤ y) : Ideal.sqrt (((9 / 4 : ℝ) : EReal) * y) = ((3 / 2 : ℝ) : EReal) * Ideal.sqrt y := by
  induction y with
  | bot => simp at h
  | top => rw [EReal.coe_mul_top_of_pos (by norm_num)]; show (⊤ : EReal) = _ * ⊤; rw [EReal.coe_mul_top_of_pos (by norm_num)]
  | coe y =>
    have hy : 0 ≤ y := by exact_mod_cast h
    rw [← EReal.coe_mul, Ideal.sqrt_coe, if_neg (not_lt.2 (by positivity)), Ideal.sqrt_coe, if_neg (not_lt.2 hy), ← EReal.coe_mul, Real.sqrt_mul (by norm_num), show Real.sqrt (9 / 4) = 3 / 2 by
      rw [show (9 / 4 : ℝ) = (3 / 2) ^ 2 by norm_num]; exact Real.sqrt_sq (by norm_num)]

theorem sqrt_eq_zero (y : EReal) (h : 0 ≤ y) (hs : Ideal.sqrt y = 0) : y = 0 := by
  induction y with
  | bot => simp at h
  | top => exact absurd hs (by show ¬ (⊤ : EReal) = 0; simp)
  | coe y =>
    have hy : 0 ≤ y := by exact_mod_cast h
    rw [Ideal.sqrt_coe, if_neg (not_lt.2 hy)] at hs
    have := (Real.sqrt_eq_zero hy).1 (by exact_mod_cast hs)
    rw [this]; rfl

theorem mul_sum_coe {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- Scaling a row by three halves scales its squared norm by nine quarters. -/
theorem rowNorm2_scale (M : Fin 2048 → Fin 2 → EReal) :
    rowNorm2 (fun c e => ((3 / 2 : ℝ) : EReal) * M c e) = ((9 / 4 : ℝ) : EReal) * rowNorm2 M := by
  have e (x : EReal) : ((3 / 2 : ℝ) : EReal) * x * (((3 / 2 : ℝ) : EReal) * x) = ((9 / 4 : ℝ) : EReal) * (x * x) := by
    rw [mul_mul_mul_comm, ← EReal.coe_mul]; norm_num
  unfold rowNorm2
  simp only [e]
  rw [← mul_sum_coe _ _ _ (by norm_num), ← mul_sum_coe _ _ _ (by norm_num),
    EReal.left_distrib_of_nonneg_of_ne_top (by exact_mod_cast (by norm_num : (0 : ℝ) ≤ 9 / 4)) (EReal.coe_ne_top _)]

/-- The scaled row times its factor is the row times its own. -/
theorem scale_mul_fac (M : Fin 2048 → Fin 2 → EReal) (mag : EReal) (c : Fin 2048) (e : Fin 2) :
    ((3 / 2 : ℝ) : EReal) * M c e * rowFac (fun c e => ((3 / 2 : ℝ) : EReal) * M c e) mag = M c e * rowFac M mag := by
  by_cases hn : rowNorm2 M = 0
  · rw [eq_zero_of_norm M hn]; simp
  · have hs : Ideal.sqrt (rowNorm2 M) ≠ 0 := fun h => hn (sqrt_eq_zero _ (rowNorm2_nonneg M) h)
    have h32 : ((3 / 2 : ℝ) : EReal) ≠ 0 := by exact_mod_cast (by norm_num : (3 / 2 : ℝ) ≠ 0)
    unfold rowFac
    rw [rowNorm2_scale, sqrt_scale _ (rowNorm2_nonneg M)]
    unfold Ideal.div
    rw [if_neg (mul_ne_zero h32 hs), if_neg hs, EReal.mul_inv]
    have h1 : ((3 / 2 : ℝ) : EReal) * ((3 / 2 : ℝ) : EReal)⁻¹ = 1 := by
      rw [← EReal.coe_inv, ← EReal.coe_mul]; norm_num
    calc _ = (((3 / 2 : ℝ) : EReal) * ((3 / 2 : ℝ) : EReal)⁻¹) * (M c e * (mag * (Ideal.sqrt (rowNorm2 M))⁻¹)) := by ac_rfl
      _ = _ := by rw [h1, one_mul]

theorem abs_of_nonneg' {x : EReal} (h : 0 ≤ x) : max x (-x) = x := max_eq_left ((EReal.neg_le_zero.2 h).trans h)
theorem abs_of_nonpos' {x : EReal} (h : x ≤ 0) : max x (-x) = -x := max_eq_right (h.trans (EReal.neg_nonneg.2 h))
theorem abs_nonneg' (x : EReal) : 0 ≤ max x (-x) := by
  rcases le_total 0 x with h | h
  · exact h.trans (le_max_left _ _)
  · exact (EReal.neg_nonneg.2 h).trans (le_max_right _ _)

theorem abs_mul' (x y : EReal) : max x (-x) * max y (-y) = max (x * y) (-(x * y)) := by
  rcases le_total 0 x with hx | hx <;> rcases le_total 0 y with hy | hy
  · rw [abs_of_nonneg' hx, abs_of_nonneg' hy, abs_of_nonneg' (mul_nonneg hx hy)]
  · rw [abs_of_nonneg' hx, abs_of_nonpos' hy, abs_of_nonpos', mul_neg]
    have := mul_nonneg hx (EReal.neg_nonneg.2 hy); rw [mul_neg] at this; exact EReal.neg_nonneg.1 this
  · rw [abs_of_nonpos' hx, abs_of_nonneg' hy, abs_of_nonpos', neg_mul]
    have := mul_nonneg (EReal.neg_nonneg.2 hx) hy; rw [neg_mul] at this; exact EReal.neg_nonneg.1 this
  · rw [abs_of_nonpos' hx, abs_of_nonpos' hy, neg_mul_neg, abs_of_nonneg']
    have := mul_nonneg (EReal.neg_nonneg.2 hx) (EReal.neg_nonneg.2 hy); rwa [neg_mul_neg] at this

theorem sup_mul {n : ℕ} (f : Fin (n + 1) → EReal) (a : EReal) (ha : 0 ≤ a) :
    (Finset.univ.sup f) * a = Finset.univ.sup fun k => f k * a := by
  have hm : Monotone fun x : EReal => x * a := fun x y h => mul_le_mul_of_nonneg_right h ha
  apply le_antisymm
  · obtain ⟨k, -, hk⟩ := Finset.exists_mem_eq_sup Finset.univ ⟨0, Finset.mem_univ _⟩ f
    rw [hk]; exact Finset.le_sup (f := fun k => f k * a) (Finset.mem_univ k)
  · exact Finset.sup_le fun k _ => hm (Finset.le_sup (Finset.mem_univ k))

/-- A group's largest absolute value times the factor's is that of the scaled row. -/
theorem max_mul_fac (M : Fin 2048 → Fin 2 → EReal) (f : EReal) (g : Fin 32) :
    rowMax M 1 g * max f (-f) = rowMax M f g := by
  have hf := abs_nonneg' f
  have hm : Monotone fun x : EReal => x * max f (-f) := fun x y h => mul_le_mul_of_nonneg_right h hf
  unfold rowMax
  simp only [mul_one]
  refine (hm.map_max (a := Finset.univ.sup fun k : Fin 64 => max (M (grpCol g k) 0) (-(M (grpCol g k) 0)))).trans ?_
  beta_reduce
  rw [sup_mul _ _ hf, sup_mul _ _ hf]
  simp only [abs_mul']

theorem rowMax_congr (M M' : Fin 2048 → Fin 2 → EReal) (f f' : EReal) (g : Fin 32) (h : ∀ c e, M c e * f = M' c e * f') :
    rowMax M f g = rowMax M' f' g := by
  unfold rowMax; simp only [h]

theorem scaleOf_ne_zero (a : EReal) : scaleOf a ≠ 0 := by
  unfold scaleOf
  split
  · rename_i h
    rw [ofBits_seven]; unfold Ideal.div
    rw [if_neg (by exact_mod_cast (by norm_num : (7 : ℝ) ≠ 0)), ← EReal.coe_inv]
    exact (EReal.mul_pos h (by exact_mod_cast (by norm_num : (0 : ℝ) < 7⁻¹))).ne'
  · exact one_ne_zero

/-- The multiplier of a row's group: its factor over the new scale, zero where the norm is zero. -/
def rowMult (M : Fin 2048 → Fin 2 → EReal) (mag s : EReal) : EReal := if 0 < rowNorm2 M then Ideal.div (rowFac M mag) s else 0

/-- A row, three halves of another, times its multiplier is the other row, scaled, over the new scale. -/
theorem scale_mul_mult (M : Fin 2048 → Fin 2 → EReal) (mag s : EReal) (hs : s ≠ 0) (c : Fin 2048) (e : Fin 2) :
    ((3 / 2 : ℝ) : EReal) * M c e * rowMult (fun c e => ((3 / 2 : ℝ) : EReal) * M c e) mag s = Ideal.div (M c e * rowFac M mag) s := by
  have h94 : (0 : EReal) < ((9 / 4 : ℝ) : EReal) := by exact_mod_cast (by norm_num : (0 : ℝ) < 9 / 4)
  unfold rowMult Ideal.div
  rw [if_neg hs, if_neg hs]
  by_cases hn : rowNorm2 M = 0
  · rw [eq_zero_of_norm M hn]; simp
  · rw [rowNorm2_scale, if_pos (EReal.mul_pos h94 (lt_of_le_of_ne (rowNorm2_nonneg M) (Ne.symm hn))), ← mul_assoc, scale_mul_fac]

/-- The scale of a row, three halves of another, from the largest unscaled absolute value. -/
theorem scale_max (M : Fin 2048 → Fin 2 → EReal) (mag : EReal) (g : Fin 32) :
    scaleOf (rowMax (fun c e => ((3 / 2 : ℝ) : EReal) * M c e) 1 g * max (rowFac (fun c e => ((3 / 2 : ℝ) : EReal) * M c e) mag) (-(rowFac (fun c e => ((3 / 2 : ℝ) : EReal) * M c e) mag)))
      = rowScale M mag g := by
  rw [max_mul_fac, rowScale]
  exact congrArg scaleOf (rowMax_congr _ _ _ _ _ fun c e => scale_mul_fac M mag c e)

theorem rowScale_ne_zero (M : Fin 2048 → Fin 2 → EReal) (mag : EReal) (g : Fin 32) : rowScale M mag g ≠ 0 := scaleOf_ne_zero _

end Cert.KernelIdeal.Hand
-- ==== Proof.KernelIdeal.StepVal.lean ====
/- A step's scales and multipliers at an index, as the mathematics of one row. -/
module

public import proofs.«01_k».proof.Proof.KernelIdeal.Step
public import proofs.«01_k».proof.Proof.KernelIdeal.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

/-- The merged row that lane `l` holds at position `k` of its four, byte by byte and nibble by nibble. -/
def laneRow (M : Fin 16384 → Fin 256 → EReal) (l : Fin 256) (k : Fin 4) : Fin 2048 → Fin 2 → EReal := fun c e =>
  M ⟨16 * (c.val / 2) + 8 * e.val + 4 * (c.val % 2) + k.val, by omega⟩ l

/-- A row of the scratch buffer is one element of a lane's row. -/
theorem rowAt_lane (M : Fin 16384 → Fin 256 → EReal) (l : Fin 256) (p s : ℕ) (hp : p < 2048) (hs : s < 8) :
    M (rowAt (8 * p + s)) l
      = laneRow M l ⟨s % 4, Nat.mod_lt _ (by decide)⟩ ⟨2 * (p / 2) + s / 4, by omega⟩ ⟨p % 2, Nat.mod_lt _ (by decide)⟩ := by
  unfold laneRow
  refine congrArg (fun r => M r l) (rowAt_eq _ _ ?_)
  show 8 * p + s = 16 * ((2 * (p / 2) + s / 4) / 2) + 8 * (p % 2) + 4 * ((2 * (p / 2) + s / 4) % 2) + s % 4
  omega

theorem sum_range_pairs (F : ℕ → EReal) (n : ℕ) : ∑ p ∈ Finset.range (2 * n), F p = ∑ u ∈ Finset.range n, (F (2 * u) + F (2 * u + 1)) := by
  induction n with
  | zero => simp
  | succ n ih => rw [show 2 * (n + 1) = 2 * n + 1 + 1 by ring, Finset.sum_range_succ, Finset.sum_range_succ, Finset.sum_range_succ, ih, add_assoc]

/-- The sums of the two halves of a lane's rows are the sum over its bytes of both nibbles. -/
theorem sum_halves (G : ℕ → ℕ → EReal) (a b : ℕ) (hab : (a = 0 ∧ b = 1) ∨ (a = 1 ∧ b = 0)) :
    ∑ p ∈ Finset.range 2048, G (2 * (p / 2) + a) (p % 2) + ∑ p ∈ Finset.range 2048, G (2 * (p / 2) + b) (p % 2)
      = ∑ c ∈ Finset.range 2048, G c 0 + ∑ c ∈ Finset.range 2048, G c 1 := by
  have h (a : ℕ) : ∑ p ∈ Finset.range 2048, G (2 * (p / 2) + a) (p % 2) = ∑ u ∈ Finset.range 1024, (G (2 * u + a) 0 + G (2 * u + a) 1) := by
    rw [show 2048 = 2 * 1024 from rfl, sum_range_pairs]
    refine Finset.sum_congr rfl fun u _ => ?_
    rw [show 2 * u / 2 = u by omega, show (2 * u + 1) / 2 = u by omega, show 2 * u % 2 = 0 by omega, show (2 * u + 1) % 2 = 1 by omega]
  have hr : ∑ c ∈ Finset.range 2048, G c 0 + ∑ c ∈ Finset.range 2048, G c 1
      = ∑ u ∈ Finset.range 1024, (G (2 * u + 0) 0 + G (2 * u + 0) 1) + ∑ u ∈ Finset.range 1024, (G (2 * u + 1) 0 + G (2 * u + 1) 1) := by
    rw [← Finset.sum_add_distrib, show 2048 = 2 * 1024 from rfl, sum_range_pairs, ← Finset.sum_add_distrib]
    rfl
  rw [h a, h b, hr]
  rcases hab with ⟨rfl, rfl⟩ | ⟨rfl, rfl⟩
  · rfl
  · exact add_comm _ _

/-- Two rows of running sums of squares make the squared norm of one lane's row. -/
theorem sumSq_pair (M : Fin 16384 → Fin 256 → EReal) (s : Fin 8) (l : Fin 256) :
    sumSq M (ix2 s l) + sumSq M (ix2 ⟨(s.val + 8 - 4) % 8, Nat.mod_lt _ (by decide)⟩ l)
      = rowNorm2 (laneRow M l ⟨s.val % 4, Nat.mod_lt _ (by decide)⟩) := by
  let K := laneRow M l ⟨s.val % 4, Nat.mod_lt _ (by decide)⟩
  let G : ℕ → ℕ → EReal := fun c e => K ⟨c % 2048, Nat.mod_lt _ (by decide)⟩ ⟨e % 2, Nat.mod_lt _ (by decide)⟩ * K ⟨c % 2048, Nat.mod_lt _ (by decide)⟩ ⟨e % 2, Nat.mod_lt _ (by decide)⟩
  have key (t : ℕ) (ht : t < 8) (hts : t % 4 = s.val % 4) :
      sumSq M (ix2 ⟨t, ht⟩ l) = ∑ p ∈ Finset.range 2048, G (2 * (p / 2) + t / 4) (p % 2) := by
    refine Finset.sum_congr rfl fun p hp => ?_
    have hp' := Finset.mem_range.1 hp
    have e : M (rowAt (8 * p + t)) l = K ⟨(2 * (p / 2) + t / 4) % 2048, Nat.mod_lt _ (by decide)⟩ ⟨p % 2 % 2, Nat.mod_lt _ (by decide)⟩ := by
      rw [rowAt_lane M l p t hp' ht]
      show laneRow M l _ _ _ = laneRow M l _ _ _
      congr 1
      · first | exact Fin.ext hts | exact congrArg (laneRow M l) (Fin.ext hts)
      · exact Fin.ext (by show 2 * (p / 2) + t / 4 = (2 * (p / 2) + t / 4) % 2048; omega)
      · exact Fin.ext (by show p % 2 = p % 2 % 2; omega)
    exact congrArg₂ _ e e
  have hs := s.isLt
  rw [key s.val s.isLt rfl, key _ (Nat.mod_lt _ (by decide)) (by omega), sum_halves G _ _ (by omega), Finset.sum_range, Finset.sum_range]
  have hc (c : Fin 2048) : (⟨c.val % 2048, Nat.mod_lt _ (by decide)⟩ : Fin 2048) = c := Fin.ext (Nat.mod_eq_of_lt c.isLt)
  show (∑ c : Fin 2048, K ⟨c.val % 2048, _⟩ 0 * K ⟨c.val % 2048, _⟩ 0) + (∑ c : Fin 2048, K ⟨c.val % 2048, _⟩ 1 * K ⟨c.val % 2048, _⟩ 1) = _
  simp only [hc]
  rfl

/-- Two rows of maxima make the largest absolute value of one group of one lane's row. -/
theorem absMax_pair (M : Fin 16384 → Fin 256 → EReal) (g : Fin 32) (s : Fin 8) (l : Fin 256) :
    max (absMax M (ix2 ⟨g.val * 8 + s.val, by omega⟩ l)) (absMax M (ix2 ⟨g.val * 8 + (s.val + 8 - 4) % 8, by omega⟩ l))
      = rowMax (laneRow M l ⟨s.val % 4, Nat.mod_lt _ (by decide)⟩) 1 g := by
  let K := laneRow M l ⟨s.val % 4, Nat.mod_lt _ (by decide)⟩
  have key (t : ℕ) (ht : t < 8) (hts : t % 4 = s.val % 4) (y : EReal) :
      absMax M (ix2 ⟨g.val * 8 + t, by omega⟩ l) ≤ y
        ↔ 0 ≤ y ∧ ∀ p (hp : p < 64), max (K (grpCol g ⟨2 * (p / 2) + t / 4, by omega⟩) ⟨p % 2, Nat.mod_lt _ (by decide)⟩)
            (-(K (grpCol g ⟨2 * (p / 2) + t / 4, by omega⟩) ⟨p % 2, Nat.mod_lt _ (by decide)⟩)) ≤ y := by
    have e (p : ℕ) (hp : p < 64) : M (rowAt (512 * ((g.val * 8 + t) / 8) + 8 * p + (g.val * 8 + t) % 8)) l
        = K (grpCol g ⟨2 * (p / 2) + t / 4, by omega⟩) ⟨p % 2, Nat.mod_lt _ (by decide)⟩ := by
      rw [show 512 * ((g.val * 8 + t) / 8) + 8 * p + (g.val * 8 + t) % 8 = 8 * (64 * g.val + p) + t by omega, rowAt_lane M l _ t (by omega) ht]
      show laneRow M l _ _ _ = laneRow M l _ _ _
      congr 1
      · first | exact Fin.ext hts | exact congrArg (laneRow M l) (Fin.ext hts)
      · exact Fin.ext (by show 2 * ((64 * g.val + p) / 2) + t / 4 = g.val * 64 + (2 * (p / 2) + t / 4); omega)
      · exact Fin.ext (by show (64 * g.val + p) % 2 = p % 2; omega)
    show max 0 ((Finset.range 64).sup fun p => max (M (rowAt (512 * ((g.val * 8 + t) / 8) + 8 * p + (g.val * 8 + t) % 8)) l)
      (-(M (rowAt (512 * ((g.val * 8 + t) / 8) + 8 * p + (g.val * 8 + t) % 8)) l))) ≤ y ↔ _
    rw [max_le_iff, Finset.sup_le_iff]
    refine and_congr_right fun _ => ⟨fun h p hp => ?_, fun h p hp => ?_⟩
    · have := h p (Finset.mem_range.2 hp); rwa [e p hp] at this
    · rw [e p (Finset.mem_range.1 hp)]; exact h p (Finset.mem_range.1 hp)
  have hs := s.isLt
  refine eq_of_forall_ge_iff fun y => ?_
  rw [max_le_iff, key s.val s.isLt rfl y, key ((s.val + 8 - 4) % 8) (Nat.mod_lt _ (by decide)) (by omega) y]
  unfold rowMax
  simp only [mul_one]
  rw [max_le_iff, Finset.sup_le_iff, Finset.sup_le_iff]
  constructor
  · rintro ⟨⟨_, h0⟩, _, h1⟩
    have all (k : Fin 64) (e : Fin 2) : max (K (grpCol g k) e) (-(K (grpCol g k) e)) ≤ y := by
      have hk := k.isLt
      have he := e.isLt
      have hpe : (⟨(2 * (k.val / 2) + e.val) % 2, Nat.mod_lt _ (by decide)⟩ : Fin 2) = e := Fin.ext (by show (2 * (k.val / 2) + e.val) % 2 = e.val; omega)
      by_cases hc : k.val % 2 = s.val / 4
      · have := h0 (2 * (k.val / 2) + e.val) (by omega)
        rw [hpe, show (⟨2 * ((2 * (k.val / 2) + e.val) / 2) + s.val / 4, by omega⟩ : Fin 64) = k from Fin.ext (by show 2 * ((2 * (k.val / 2) + e.val) / 2) + s.val / 4 = k.val; omega)] at this
        exact this
      · have := h1 (2 * (k.val / 2) + e.val) (by omega)
        rw [hpe, show (⟨2 * ((2 * (k.val / 2) + e.val) / 2) + (s.val + 8 - 4) % 8 / 4, by omega⟩ : Fin 64) = k from
          Fin.ext (by show 2 * ((2 * (k.val / 2) + e.val) / 2) + (s.val + 8 - 4) % 8 / 4 = k.val; omega)] at this
        exact this
    exact ⟨fun k _ => all k 0, fun k _ => all k 1⟩
  · rintro ⟨h0, h1⟩
    have all (k : Fin 64) (e : Fin 2) : max (K (grpCol g k) e) (-(K (grpCol g k) e)) ≤ y := by
      match e with
      | ⟨0, _⟩ => exact h0 k (Finset.mem_univ _)
      | ⟨1, _⟩ => exact h1 k (Finset.mem_univ _)
    have hy : 0 ≤ y := (abs_nonneg' _).trans (all 0 0)
    exact ⟨⟨hy, fun p hp => all _ _⟩, hy, fun p hp => all _ _⟩

set_option maxHeartbeats 1000000 in
/-- The factor of a lane's row. -/
theorem pay145_apply (M : Fin 16384 → Fin 256 → EReal) (x4 : Vec Ideal S1x4x256 .f32) (s : Fin 8) (l : Fin 256) :
    k0_pay145 (sumSq M) x4 x4 (ix2 s l)
      = rowFac (laneRow M l ⟨s.val % 4, Nat.mod_lt _ (by decide)⟩) (x4 (ix3 0 ⟨s.val % 4, Nat.mod_lt _ (by decide)⟩ l)) := by
  rw [rowFac, ← sumSq_pair]
  generalize sumSq M = v
  unfold k0_pay145 k0_pay144
  pointwise
  congr 1
  split
  · exact congrArg (fun k => x4 (ix3 0 k l)) (Fin.ext (by show s.val = s.val % 4; omega))
  · exact congrArg (fun k => x4 (ix3 0 k l)) (Fin.ext (by show s.val - 4 = s.val % 4; omega))

/-- The scale of a lane's row in a group, from its unscaled largest absolute value. -/
def laneScale (M : Fin 16384 → Fin 256 → EReal) (l : Fin 256) (k : Fin 4) (mag : EReal) (g : Fin 32) : EReal :=
  scaleOf (rowMax (laneRow M l k) 1 g * max (rowFac (laneRow M l k) mag) (-(rowFac (laneRow M l k) mag)))

set_option maxHeartbeats 1000000 in
theorem pay146_apply (M : Fin 16384 → Fin 256 → EReal) (x4 : Vec Ideal S1x4x256 .f32) (g : Fin 32) (s : Fin 8) (l : Fin 256) :
    k0_pay146 (sumSq M) x4 x4 (absMax M) (ix3 g s l)
      = laneScale M l ⟨s.val % 4, Nat.mod_lt _ (by decide)⟩ (x4 (ix3 0 ⟨s.val % 4, Nat.mod_lt _ (by decide)⟩ l)) g := by
  rw [laneScale, ← absMax_pair, ← pay145_apply]
  generalize absMax M = w
  unfold k0_pay146
  generalize k0_pay145 (sumSq M) x4 x4 = y
  pointwise [scaleOf]
  rfl

set_option maxHeartbeats 1000000 in
/-- The multipliers of a step at an index. -/
theorem stepQ_apply (M : Fin 16384 → Fin 256 → EReal) (x4 : Vec Ideal S1x4x256 .f32) (g : Fin 32) (s : Fin 8) (l : Fin 256) :
    stepQ M x4 (ix2 ⟨g.val * 8 + s.val, by omega⟩ l)
      = rowMult (laneRow M l ⟨s.val % 4, Nat.mod_lt _ (by decide)⟩) (x4 (ix3 0 ⟨s.val % 4, Nat.mod_lt _ (by decide)⟩ l))
          (laneScale M l ⟨s.val % 4, Nat.mod_lt _ (by decide)⟩ (x4 (ix3 0 ⟨s.val % 4, Nat.mod_lt _ (by decide)⟩ l)) g) := by
  have h144 : k0_pay144 (sumSq M) (ix2 s l) = rowNorm2 (laneRow M l ⟨s.val % 4, Nat.mod_lt _ (by decide)⟩) := by
    rw [← sumSq_pair]
    generalize sumSq M = v
    unfold k0_pay144
    pointwise
  unfold stepQ k0_pay1 k0_pay147
  rw [rowMult, ← h144, ← pay145_apply, ← pay146_apply]
  generalize k0_pay145 (sumSq M) x4 x4 = y
  generalize k0_pay144 (sumSq M) = y1
  generalize k0_pay146 (sumSq M) x4 x4 (absMax M) = y'
  pointwise

set_option maxHeartbeats 1000000 in
/-- The scales of a step at an index, where the collecting matrix picks one row of each group and position. -/
theorem stepScale_apply (M : Fin 16384 → Fin 256 → EReal) (x4 : Vec Ideal S1x4x256 .f32) (x8 : Vec Ideal S128x256 .bf16)
    (h8 : ∀ (p : Fin 128) (r : Fin 256), x8 (ix2 p r) = if r.val = 8 * (p.val % 32) + p.val / 32 then (1 : EReal) else 0)
    (l : Fin 256) (p : Fin 128) :
    stepScale M x4 x8 (ix3 0 l p)
      = laneScale M l ⟨p.val / 32, by omega⟩ (x4 (ix3 0 ⟨p.val / 32, by omega⟩ l)) ⟨p.val % 32, Nat.mod_lt _ (by decide)⟩ := by
  have hp := p.isLt
  unfold stepScale k0_pay2
  have h := pay146_apply M x4 ⟨p.val % 32, Nat.mod_lt _ (by decide)⟩ ⟨p.val / 32, by omega⟩ l
  rw [show (⟨(⟨p.val / 32, by omega⟩ : Fin 8).val % 4, Nat.mod_lt _ (by decide)⟩ : Fin 4) = ⟨p.val / 32, by omega⟩ from Fin.ext (by show p.val / 32 % 4 = p.val / 32; omega)] at h
  rw [← h]
  generalize k0_pay146 (sumSq M) x4 x4 (absMax M) = y
  pointwise
  rw [Finset.sum_eq_single (⟨8 * (p.val % 32) + p.val / 32, by omega⟩ : Fin 256)]
  · rw [h8, if_pos rfl, one_mul]
    exact congrArg₂ (fun g s => y (ix3 g s l)) (Fin.ext (by show (8 * (p.val % 32) + p.val / 32) / 8 = p.val % 32; omega))
      (Fin.ext (by show (8 * (p.val % 32) + p.val / 32) % 8 = p.val / 32; omega))
  · intro r _ hr
    rw [h8, if_neg (fun h => hr (Fin.ext h)), zero_mul]
  · intro h; exact absurd (Finset.mem_univ _) h

end Cert.KernelIdeal.Hand
-- ==== Proof.KernelIdeal.StepRows.lean ====
/- A step's merged rows at an index, as three halves of the rows that the reference merges. -/
module

public import proofs.«01_k».proof.Proof.KernelIdeal.StepVal
public import proofs.«01_k».proof.Proof.KernelIdeal.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

/-- The expanded scales at a row: the row of the expansion times the lane's scales. -/
theorem pay138_apply (x7 : Vec Ideal S256x128 .bf16) (x2 : Vec Ideal S1x256x128 .bf16) (r : Fin 256) (e : Fin 2) (l : Fin 256) :
    (k0_pay138 x7 x2 : Vec Ideal S256x2x256 .bf16) (ix3 r e l) = ∑ x : Fin 128, x7 (ix2 r x) * x2 (ix3 0 l x) := by
  unfold k0_pay138
  pointwise
  split <;> rfl

/-- The identity's elements, as they are computed. -/
theorem indicator_apply (j x : Fin 128) : FloatOps.sitofp (F := Ideal) FTy.f32 (BitVec.setWidth 32 (IntOp.cmpi CmpIPredicate.eq (BitVec.ofNat 32 j.val) (BitVec.ofNat 32 x.val)))
    = if j = x then (1 : EReal) else 0 := by
  have h : (BitVec.setWidth 32 (IntOp.cmpi CmpIPredicate.eq (BitVec.ofNat 32 j.val) (BitVec.ofNat 32 x.val))).toInt = if j = x then 1 else 0 := by
    by_cases hj : j = x
    · subst hj; simp [IntOp.cmpi]
    · have hb : ¬ BitVec.ofNat 32 j.val = BitVec.ofNat 32 x.val := fun hh => hj (Fin.ext (by
        have := congrArg BitVec.toNat hh
        rw [BitVec.toNat_ofNat, BitVec.toNat_ofNat] at this
        omega))
      have hf : (BitVec.ofNat 32 j.val == BitVec.ofNat 32 x.val) = false := beq_eq_false_iff_ne.2 hb
      simp [IntOp.cmpi, hj, hf]
  show (((BitVec.setWidth 32 (IntOp.cmpi CmpIPredicate.eq (BitVec.ofNat 32 j.val) (BitVec.ofNat 32 x.val))).toInt : ℝ) : EReal) = _
  rw [h]
  split <;> simp

/-- The transposed low-rank rows. -/
theorem pay139_apply (x3 : Vec Ideal S1x256x128 .bf16) (j : Fin 128) (l : Fin 256) :
    (k0_pay139 x3 : Vec Ideal S128x256 .bf16) (ix2 j l) = x3 (ix3 0 l j) := by
  have h : (k0_pay139 x3 : Vec Ideal S128x256 .bf16) (ix2 j l) = ∑ x : Fin 128, (if j = x then (1 : EReal) else 0) * x3 (ix3 0 l x) := by
    simp only [← indicator_apply]
    unfold k0_pay139
    pointwise
  rw [h, Finset.sum_eq_single j]
  · rw [if_pos rfl, one_mul]
  · intro b _ hb; rw [if_neg (fun h => hb h.symm), zero_mul]
  · intro h; exact absurd (Finset.mem_univ _) h

/-- The low-rank sum over all the lanes of four rows is the sum over the row's own 24. -/
theorem lora_sum (la : Fin 24 → EReal) (y : Fin 128 → EReal) (k : Fin 4) :
    (∑ j : Fin 128, (if h : j.val < 96 then la ⟨j.val % 24, Nat.mod_lt _ (by decide)⟩ * (if k.val = j.val / 24 then (1 : EReal) else 0) else 0) * y j)
      = ∑ r : Fin 24, y ⟨k.val * 24 + r.val, by omega⟩ * la r := by
  symm
  refine Fintype.sum_of_injective (fun r : Fin 24 => (⟨k.val * 24 + r.val, by omega⟩ : Fin 128)) ?_ _ _ ?_ ?_
  · intro a b hab
    have := congrArg Fin.val hab
    exact Fin.ext (by dsimp at this; omega)
  · intro j hj
    split
    · rename_i hlt
      rw [if_neg, mul_zero, zero_mul]
      intro hk
      exact hj ⟨⟨j.val % 24, Nat.mod_lt _ (by decide)⟩, Fin.ext (by show k.val * 24 + j.val % 24 = j.val; omega)⟩
    · rw [zero_mul]
  · intro r
    have hr := r.isLt
    have hk := k.isLt
    dsimp only
    rw [dif_pos (by omega), if_pos (by omega), mul_one, mul_comm]
    exact congrArg (fun q => la q * y ⟨k.val * 24 + r.val, by omega⟩) (Fin.ext (by dsimp only; omega) : r = ⟨(k.val * 24 + r.val) % 24, Nat.mod_lt _ (by decide)⟩)

theorem three_halves_mul (a b : EReal) : ((3 / 2 : ℝ) : EReal) * (a + ((2 / 3 : ℝ) : EReal) * b) = ((3 / 2 : ℝ) : EReal) * a + b := by
  rw [EReal.left_distrib_of_nonneg_of_ne_top (by exact_mod_cast (by norm_num : (0 : ℝ) ≤ 3 / 2)) (EReal.coe_ne_top _), ← mul_assoc, ← EReal.coe_mul]
  norm_num

/-- The positions of byte `c`, nibble `e` and position `k` in a merged block: `r` of 128 rows, `j` of 128 columns of the permutation. -/
theorem digits (c k e : ℕ) (hk : k < 4) (he : e < 2) :
    (16 * (c / 2 % 8) + 8 * (c % 2) + 2 * k + e) % 8 % 2 = e
    ∧ (16 * (c / 2 % 8) + 8 * (c % 2) + 2 * k + e) % 8 / 2 = k
    ∧ 16 * ((16 * (c / 2) + 8 * e + 4 * (c % 2) + k) / 128) + (16 * (c / 2 % 8) + 8 * (c % 2) + 2 * k + e) / 8 = c
    ∧ (16 * (c / 2) + 8 * e + 4 * (c % 2) + k) / 512 = c / 64
    ∧ (16 * (c / 2 % 8) + 8 * (c % 2) + 2 * k + e) % 16 / 2 = 4 * (c % 2) + k
    ∧ (8 * (c / 64) + (4 * (c % 2) + k)) % 4 = k
    ∧ (8 * (c / 64) + (4 * (c % 2) + k)) / 8 = c / 64
    ∧ (16 * (c / 2) + 8 * e + 4 * (c % 2) + k) % 128 / 16 = c / 2 % 8
    ∧ (16 * (c / 2) + 8 * e + 4 * (c % 2) + k) % 128 / 4 % 2 = c % 2
    ∧ (16 * (c / 2) + 8 * e + 4 * (c % 2) + k) % 128 % 4 = k
    ∧ (16 * (c / 2) + 8 * e + 4 * (c % 2) + k) % 128 / 8 % 2 = e := by
  obtain ⟨w, z, y, x, hc, hz, hy, hx⟩ : ∃ w z y x, c = 64 * w + 16 * z + 2 * y + x ∧ z < 4 ∧ y < 8 ∧ x < 2 :=
    ⟨c / 64, c / 16 % 4, c / 2 % 8, c % 2, by omega, by omega, by omega, by omega⟩
  have h1 : c / 2 = 32 * w + 8 * z + y := by omega
  have h2 : c % 2 = x := by omega
  have h3 : c / 64 = w := by omega
  have h4 : (32 * w + 8 * z + y) % 8 = y := by omega
  rw [h1, h2, h3, h4, hc]
  clear h1 h2 h3 h4 hc
  refine ⟨?_, ?_, ?_, ?_, ?_, ?_, ?_, ?_, ?_, ?_, ?_⟩ <;> omega

/-- The step's row at a lane and a position is three halves of that row merged. -/
theorem stepM_lane (x1 : Vec Ideal S1x1024x2048 .i8) (x2 x3 : Vec Ideal S1x256x128 .bf16) (x5 : Vec Ideal S1x16384x128 .bf16)
    (x6 : Vec Ideal S128x128 .bf16) (x7 : Vec Ideal S256x128 .bf16) (la : Fin 24 → Fin 4096 → EReal)
    (h5 : ∀ (ρ : Fin 16384) (j : Fin 128), x5 (ix3 0 ρ j) = if h : j.val < 96 then
          la ⟨j.val % 24, Nat.mod_lt _ (by decide)⟩ ⟨ρ.val / 16 * 4 + ρ.val / 4 % 2 * 2 + ρ.val / 8 % 2, by omega⟩ * (if ρ.val % 4 = j.val / 24 then (1 : EReal) else 0)
        else (0 : EReal))
    (h6 : ∀ i j : Fin 128, x6 (ix2 i j) = if j.val = 16 * (i.val / 16) + 8 * (i.val / 4 % 2) + 2 * (i.val % 4) + i.val / 8 % 2 then ((3 / 2 : ℝ) : EReal) else 0)
    (h7 : ∀ (i : Fin 256) (j : Fin 128), x7 (ix2 i j) = if j.val = i.val % 4 * 32 + i.val / 8 then (1 : EReal) else 0)
    (l : Fin 256) (k : Fin 4) (c : Fin 2048) (e : Fin 2) :
    laneRow (stepM x1 x2 x3 x5 x6 x7) l k c e
      = ((3 / 2 : ℝ) : EReal) * mergeAt (fun c => x1 (ix3 0 ⟨4 * l.val + k.val, by omega⟩ c)) (fun g => x2 (ix3 0 l ⟨k.val * 32 + g.val, by omega⟩))
          (fun r => x3 (ix3 0 l ⟨k.val * 24 + r.val, by omega⟩)) la c e := by
  have hk := k.isLt
  have hc := c.isLt
  have he := e.isLt
  unfold laneRow stepM mAt mergeAt
  rw [three_halves_mul]
  dsimp only
  congr 1
  · have hJ : 16 * (c.val / 2 % 8) + 8 * (c.val % 2) + 2 * k.val + e.val < 128 := by omega
    obtain ⟨a1, a2, a3, a4, a5, a6, a7, b1, b2, b3, b4⟩ := digits c.val k.val e.val hk he
    rw [Finset.sum_eq_single (⟨16 * (c.val / 2 % 8) + 8 * (c.val % 2) + 2 * k.val + e.val, hJ⟩ : Fin 128)]
    · rw [h6, if_pos (by dsimp only; rw [b1, b2, b3, b4]), pay138_apply, Finset.sum_eq_single (⟨k.val * 32 + c.val / 64, by omega⟩ : Fin 128)]
      · rw [h7, if_pos (by dsimp only; rw [a4, a5, a6, a7]), one_mul]
        dsimp only
        refine congrArg (fun w => ((3 / 2 : ℝ) : EReal) * (codeVal w * x2 (ix3 0 l ⟨k.val * 32 + c.val / 64, by omega⟩))) ?_
        rw [a1]
        exact congrArg₂ (fun p q => BitVec.extractLsb' (4 * e.val) 4 (show BitVec 8 from x1 (ix3 0 p q))) (Fin.ext (by dsimp only; rw [a2])) (Fin.ext a3)
      · intro b _ hb
        rw [h7, if_neg, zero_mul]
        intro h
        refine hb (Fin.ext ?_)
        dsimp only at h ⊢
        rw [a4, a5, a6, a7] at h
        exact h
      · intro h; exact absurd (Finset.mem_univ _) h
    · intro b _ hb
      rw [h6, if_neg, zero_mul]
      intro h
      refine hb (Fin.ext ?_)
      dsimp only at h ⊢
      rw [b1, b2, b3, b4] at h
      exact h
    · intro h; exact absurd (Finset.mem_univ _) h
  · rw [← lora_sum (fun r => la r ⟨2 * c.val + e.val, by omega⟩) (fun j => x3 (ix3 0 l j)) k]
    refine Finset.sum_congr rfl fun j _ => ?_
    rw [h5, pay139_apply]
    refine congrArg (fun q => q * x3 (ix3 0 l j)) ?_
    refine dite_congr rfl (fun h => ?_) fun _ => rfl
    refine congrArg₂ (fun a b => la _ a * b) (Fin.ext ?_) (if_congr ?_ rfl rfl)
    · dsimp only; omega
    · dsimp only
      rw [show (16 * (c.val / 2) + 8 * e.val + 4 * (c.val % 2) + k.val) % 4 = k.val by omega]

end Cert.KernelIdeal.Hand
-- ==== Proof.KernelIdeal.StepA.lean ====
module
public import proofs.«01_k».proof.Proof.KernelIdeal.Step
public import Idealize.ShloMosaic.Lib.WritesUnit
public import Idealize.ShloMosaic.Lib.VecWindow
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem

set_option maxHeartbeats 4000000 in
/-- The merged rows that the step leaves (in the first step). -/
theorem read11A (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg11.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.1 = rowsVec (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) := by
  unfold runA
  dsimp only
  rw [View.writes_append]
  exact (after11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 (arg12.view.writes (Elt Ideal) arg12.view.junk runA.sl.H12_1) (arg13.view.writes (Elt Ideal) arg13.view.junk (runA.sl.H13_1 arg2 arg7 f2 f7)) (arg16.view.writes (Elt Ideal) arg16.view.junk (runA.sl.H16_1 arg3 f3)) f9 (arg11.view.writes (Elt Ideal) f11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (Scf.trips (0#32) (Scalar.addi 0#32 128#32) 1#32))) f14 (arg15.view.writes (Elt Ideal) arg15.view.junk runA.sl.H15_1)).trans (congrArg rowsVec (loopM_eq arg1 arg2 arg3 arg5 arg6 arg7 arg13 arg16 f1 f2 f3 f5 f6 f7 (arg13.view.writes (Elt Ideal) arg13.view.junk (runA.sl.H13_1 arg2 arg7 f2 f7)) (arg16.view.writes (Elt Ideal) arg16.view.junk (runA.sl.H16_1 arg3 f3)) (read13 arg2 arg7 arg13 f2 f7 _) (read16 arg3 arg16 f3 _)))

set_option maxHeartbeats 4000000 in
/-- The codes that the step writes (in the first step). -/
theorem read9A (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg9.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).1
    = codesVec (arg11.view.read (Elt Ideal) (arg11.view.writes (Elt Ideal) f11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (Scf.trips (0#32) (Scalar.addi 0#32 128#32) 1#32)))) (arg12.view.read (Elt Ideal) (arg12.view.writes (Elt Ideal) arg12.view.junk runA.sl.H12_1)) := by
  unfold runA
  dsimp only
  exact after9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 (arg12.view.writes (Elt Ideal) arg12.view.junk runA.sl.H12_1) (arg13.view.writes (Elt Ideal) arg13.view.junk (runA.sl.H13_1 arg2 arg7 f2 f7)) (arg16.view.writes (Elt Ideal) arg16.view.junk (runA.sl.H16_1 arg3 f3)) f9 (arg11.view.writes (Elt Ideal) f11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (Scf.trips (0#32) (Scalar.addi 0#32 128#32) 1#32))) f14 (arg15.view.writes (Elt Ideal) arg15.view.junk runA.sl.H15_1)

set_option maxHeartbeats 4000000 in
/-- The sums of squares as the step reads them after the loop (in the first step). -/
theorem load15A (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : runA.sl.v30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f5 f6 f7 f9 f11 f14 = sumSq (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) := by
  unfold runA.sl.v30
  refine (View.readAt_full arg15.view _ _).trans ?_
  rw [View.writes_append]
  exact (after15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 (arg12.view.writes (Elt Ideal) arg12.view.junk runA.sl.H12_1) (arg13.view.writes (Elt Ideal) arg13.view.junk (runA.sl.H13_1 arg2 arg7 f2 f7)) (arg16.view.writes (Elt Ideal) arg16.view.junk (runA.sl.H16_1 arg3 f3)) f9 (arg11.view.writes (Elt Ideal) f11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (Scf.trips (0#32) (Scalar.addi 0#32 128#32) 1#32))) f14 (arg15.view.writes (Elt Ideal) arg15.view.junk runA.sl.H15_1) (read15_zero arg15 _)).trans (congrArg sumSq (loopM_eq arg1 arg2 arg3 arg5 arg6 arg7 arg13 arg16 f1 f2 f3 f5 f6 f7 (arg13.view.writes (Elt Ideal) arg13.view.junk (runA.sl.H13_1 arg2 arg7 f2 f7)) (arg16.view.writes (Elt Ideal) arg16.view.junk (runA.sl.H16_1 arg3 f3)) (read13 arg2 arg7 arg13 f2 f7 _) (read16 arg3 arg16 f3 _)))

set_option maxHeartbeats 4000000 in
/-- The maxima as the step reads them after the loop (in the first step). -/
theorem load14A (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : runA.sl.v40 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f5 f6 f7 f9 f11 f14 = absMax (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) := by
  unfold runA.sl.v40
  refine (View.readAt_full arg14.view _ _).trans ?_
  exact (after14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 (arg12.view.writes (Elt Ideal) arg12.view.junk runA.sl.H12_1) (arg13.view.writes (Elt Ideal) arg13.view.junk (runA.sl.H13_1 arg2 arg7 f2 f7)) (arg16.view.writes (Elt Ideal) arg16.view.junk (runA.sl.H16_1 arg3 f3)) f9 (arg11.view.writes (Elt Ideal) f11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc (Scf.trips (0#32) (Scalar.addi 0#32 128#32) 1#32))) f14 (arg15.view.writes (Elt Ideal) arg15.view.junk runA.sl.H15_1)).trans (congrArg absMax (loopM_eq arg1 arg2 arg3 arg5 arg6 arg7 arg13 arg16 f1 f2 f3 f5 f6 f7 (arg13.view.writes (Elt Ideal) arg13.view.junk (runA.sl.H13_1 arg2 arg7 f2 f7)) (arg16.view.writes (Elt Ideal) arg16.view.junk (runA.sl.H16_1 arg3 f3)) (read13 arg2 arg7 arg13 f2 f7 _) (read16 arg3 arg16 f3 _)))

set_option maxHeartbeats 4000000 in
/-- The scales that the step writes (in the first step). -/
theorem read10A (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg10.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.1
    = stepScale (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) (arg4.view.read (Elt Ideal) f4) (arg8.view.read (Elt Ideal) f8) := by
  unfold runA
  dsimp only
  refine (View.read_writes_full arg10.view f10 inb_S1x256x128_S1x256x128_0_0_0 _ []).trans ?_
  unfold stepScale
  refine congr (congrArg k0_pay2 ?_) (View.readAt_full arg8.view f8 _)
  unfold runA.sl.r
  rw [load15A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16, load14A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16]
  exact congrArg (fun z => k0_pay146 (F := Ideal) _ z z _) (View.readAt_full arg4.view f4 _)

set_option maxHeartbeats 4000000 in
/-- The multipliers that the step leaves (in the first step). -/
theorem read12A (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg12.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.1
    = stepQ (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) (arg4.view.read (Elt Ideal) f4) := by
  unfold runA
  dsimp only
  refine (View.read_writes_full arg12.view _ inb_S256x256_S256x256_0_0 _ _).trans ?_
  unfold stepQ
  refine congrArg (k0_pay1 (F := Ideal)) ?_
  unfold runA.sl.r_1
  rw [load15A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16, load14A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16]
  exact congrArg (fun z => k0_pay147 (F := Ideal) _ z z _) (View.readAt_full arg4.view f4 _)

end Cert.KernelIdeal.Hand
-- ==== Proof.KernelIdeal.StepB.lean ====
module
public import proofs.«01_k».proof.Proof.KernelIdeal.Step
public import Idealize.ShloMosaic.Lib.WritesUnit
public import Idealize.ShloMosaic.Lib.VecWindow
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem

set_option maxHeartbeats 4000000 in
/-- The merged rows that the step leaves (in a later step). -/
theorem read11B (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg11.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.1 = rowsVec (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) := by
  unfold runB
  dsimp only
  skip
  exact (after11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 f12 (arg13.view.writes (Elt Ideal) arg13.view.junk (runB.sl.H13_1 arg2 arg7 f2 f7)) (arg16.view.writes (Elt Ideal) arg16.view.junk (runB.sl.H16_1 arg3 f3)) f9 f11 f14 (arg15.view.writes (Elt Ideal) arg15.view.junk runB.sl.H15_1)).trans (congrArg rowsVec (loopM_eq arg1 arg2 arg3 arg5 arg6 arg7 arg13 arg16 f1 f2 f3 f5 f6 f7 (arg13.view.writes (Elt Ideal) arg13.view.junk (runB.sl.H13_1 arg2 arg7 f2 f7)) (arg16.view.writes (Elt Ideal) arg16.view.junk (runB.sl.H16_1 arg3 f3)) (read13 arg2 arg7 arg13 f2 f7 _) (read16 arg3 arg16 f3 _)))

set_option maxHeartbeats 4000000 in
/-- The codes that the step writes (in a later step). -/
theorem read9B (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg9.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).1
    = codesVec (arg11.view.read (Elt Ideal) f11) (arg12.view.read (Elt Ideal) f12) := by
  unfold runB
  dsimp only
  exact after9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 f12 (arg13.view.writes (Elt Ideal) arg13.view.junk (runB.sl.H13_1 arg2 arg7 f2 f7)) (arg16.view.writes (Elt Ideal) arg16.view.junk (runB.sl.H16_1 arg3 f3)) f9 f11 f14 (arg15.view.writes (Elt Ideal) arg15.view.junk runB.sl.H15_1)

set_option maxHeartbeats 4000000 in
/-- The sums of squares as the step reads them after the loop (in a later step). -/
theorem load15B (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : runB.sl.v30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  f1 f2 f3 f5 f6 f7 f9 f11 f12 f14 = sumSq (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) := by
  unfold runB.sl.v30
  refine (View.readAt_full arg15.view _ _).trans ?_
  rw [View.writes_append]
  exact (after15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 f12 (arg13.view.writes (Elt Ideal) arg13.view.junk (runB.sl.H13_1 arg2 arg7 f2 f7)) (arg16.view.writes (Elt Ideal) arg16.view.junk (runB.sl.H16_1 arg3 f3)) f9 f11 f14 (arg15.view.writes (Elt Ideal) arg15.view.junk runB.sl.H15_1) (read15_zero arg15 _)).trans (congrArg sumSq (loopM_eq arg1 arg2 arg3 arg5 arg6 arg7 arg13 arg16 f1 f2 f3 f5 f6 f7 (arg13.view.writes (Elt Ideal) arg13.view.junk (runB.sl.H13_1 arg2 arg7 f2 f7)) (arg16.view.writes (Elt Ideal) arg16.view.junk (runB.sl.H16_1 arg3 f3)) (read13 arg2 arg7 arg13 f2 f7 _) (read16 arg3 arg16 f3 _)))

set_option maxHeartbeats 4000000 in
/-- The maxima as the step reads them after the loop (in a later step). -/
theorem load14B (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : runB.sl.v40 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  f1 f2 f3 f5 f6 f7 f9 f11 f12 f14 = absMax (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) := by
  unfold runB.sl.v40
  refine (View.readAt_full arg14.view _ _).trans ?_
  exact (after14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (permAt arg6 f6) f1 f5 f12 (arg13.view.writes (Elt Ideal) arg13.view.junk (runB.sl.H13_1 arg2 arg7 f2 f7)) (arg16.view.writes (Elt Ideal) arg16.view.junk (runB.sl.H16_1 arg3 f3)) f9 f11 f14 (arg15.view.writes (Elt Ideal) arg15.view.junk runB.sl.H15_1)).trans (congrArg absMax (loopM_eq arg1 arg2 arg3 arg5 arg6 arg7 arg13 arg16 f1 f2 f3 f5 f6 f7 (arg13.view.writes (Elt Ideal) arg13.view.junk (runB.sl.H13_1 arg2 arg7 f2 f7)) (arg16.view.writes (Elt Ideal) arg16.view.junk (runB.sl.H16_1 arg3 f3)) (read13 arg2 arg7 arg13 f2 f7 _) (read16 arg3 arg16 f3 _)))

set_option maxHeartbeats 4000000 in
/-- The scales that the step writes (in a later step). -/
theorem read10B (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg10.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.1
    = stepScale (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) (arg4.view.read (Elt Ideal) f4) (arg8.view.read (Elt Ideal) f8) := by
  unfold runB
  dsimp only
  refine (View.read_writes_full arg10.view f10 inb_S1x256x128_S1x256x128_0_0_0 _ []).trans ?_
  unfold stepScale
  refine congr (congrArg k0_pay2 ?_) (View.readAt_full arg8.view f8 _)
  unfold runB.sl.r
  rw [load15B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16, load14B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16]
  exact congrArg (fun z => k0_pay146 (F := Ideal) _ z z _) (View.readAt_full arg4.view f4 _)

set_option maxHeartbeats 4000000 in
/-- The multipliers that the step leaves (in a later step). -/
theorem read12B (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : arg12.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.1
    = stepQ (stepM (arg1.view.read (Elt Ideal) f1) (arg2.view.read (Elt Ideal) f2) (arg3.view.read (Elt Ideal) f3) (arg5.view.read (Elt Ideal) f5) (arg6.view.read (Elt Ideal) f6) (arg7.view.read (Elt Ideal) f7)) (arg4.view.read (Elt Ideal) f4) := by
  unfold runB
  dsimp only
  refine (View.read_writes_full arg12.view _ inb_S256x256_S256x256_0_0 _ _).trans ?_
  unfold stepQ
  refine congrArg (k0_pay1 (F := Ideal)) ?_
  unfold runB.sl.r_1
  rw [load15B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16, load14B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16]
  exact congrArg (fun z => k0_pay147 (F := Ideal) _ z z _) (View.readAt_full arg4.view f4 _)

end Cert.KernelIdeal.Hand
-- ==== Proof.KernelIdeal.BodyVal.lean ====
module

public import proofs.«01_k».proof.Proof.KernelIdeal.StepA
public import proofs.«01_k».proof.Proof.KernelIdeal.StepB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

local notation "𝕄" => MT nD τ sig Unit (Elt Ideal) ℕ (UR sig nD τ) ℕ

/-- The codes of a block whose multipliers are zero, whatever its merged rows. -/
theorem codesVec_zero (y y' : Vec Ideal S16384x256 .f32) (q : Vec Ideal S256x256 .f32) (hq : ∀ r l : Fin 256, q (ix2 r l) = 0) :
    codesVec y q = codesVec y' q := by
  funext ix
  unfold codesVec codeAt
  simp only [hq, mul_zero]

/-- The first point starts from zero multipliers. -/
theorem zeros12 (arg12 : Memref sig .tc .vmem S256x256 .f32) (f12 : BufTy.Contents (Elt Ideal) arg12.view.ty) :
    arg12.view.read (Elt Ideal) (arg12.view.writes (Elt Ideal) f12 (runA.sl.H12_1 (F := Ideal))) = fun _ => 0 := by
  unfold runA.sl.H12_1
  refine (View.read_writes_full arg12.view _ inb_S256x256_S256x256_0_0 _ _).trans (funext fun ix => ?_)
  rw [eq_ix2 ix]
  exact pay136_zero _ _

set_option maxHeartbeats 4000000 in
/-- At the first point the body writes zero codes, and leaves this point's scales, rows and multipliers. -/
theorem body_first (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : k0_cond1 i = 1#1) (x1 : Vec Ideal S1x1024x2048 .i8) (x2 : Vec Ideal S1x256x128 .bf16) (x3 : Vec Ideal S1x256x128 .bf16) (x4 : Vec Ideal S1x4x256 .f32) (x5 : Vec Ideal S1x16384x128 .bf16) (x6 : Vec Ideal S128x128 .bf16) (x7 : Vec Ideal S256x128 .bf16) (x8 : Vec Ideal S128x256 .bf16) (x9 : Vec Ideal S1x1024x2048 .i8) (x10 : Vec Ideal S1x256x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d : Vec Ideal S16384x256 .f32, owns (c : Thread nD τ) arg11 fullShare d) ∗ (∃ d : Vec Ideal S256x256 .f32, owns (c : Thread nD τ) arg12 fullShare d) ∗ (∃ d : Vec Ideal S256x2x256 .bf16, owns (c : Thread nD τ) arg13 fullShare d) ∗ (∃ d : Vec Ideal S256x256 .f32, owns (c : Thread nD τ) arg14 fullShare d) ∗ (∃ d : Vec Ideal S8x256 .f32, owns (c : Thread nD τ) arg15 fullShare d) ∗ (∃ d : Vec Ideal S128x256 .bf16, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (codesVec (fun _ => 0) (fun _ => 0)) ∗ owns (c : Thread nD τ) arg10 fullShare (stepScale (stepM x1 x2 x3 x5 x6 x7) x4 x8) ∗ owns (c : Thread nD τ) arg11 fullShare (rowsVec (stepM x1 x2 x3 x5 x6 x7)) ∗ owns (c : Thread nD τ) arg12 fullShare (stepQ (stepM x1 x2 x3 x5 x6 x7) x4) ∗ (∃ d : Vec Ideal S256x2x256 .bf16, owns (c : Thread nD τ) arg13 fullShare d) ∗ (∃ d : Vec Ideal S256x256 .f32, owns (c : Thread nD τ) arg14 fullShare d) ∗ (∃ d : Vec Ideal S8x256 .f32, owns (c : Thread nD τ) arg15 fullShare d) ∗ (∃ d : Vec Ideal S128x256 .bf16, owns (c : Thread nD τ) arg16 fullShare d)) -∗ K ⟨⟩))
      ⊢ wp frame (wpE (defs₀ (F := Ideal)) Variants.none c none) Set.univ (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, Hk⟩
  subst h1
  subst h2
  subst h3
  subst h4
  subst h5
  subst h6
  subst h7
  subst h8
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.2.2.2.2.2 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rw [read9A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16, zeros12]; exact codesVec_zero _ _ _ fun _ _ => rfl
  isplitl [H10]
  · iexists _; isplitr; swap; · iexact H10
    ipureintro; exact read10A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H11]
  · iexists _; isplitr; swap; · iexact H11
    ipureintro; exact read11A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H12]
  · iexists _; isplitr; swap; · iexact H12
    ipureintro; exact read12A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

set_option maxHeartbeats 4000000 in
/-- At a later point the body writes the codes of the rows and multipliers that it finds, and leaves this point's scales, rows and multipliers. -/
theorem body_later (c : Dev nD) (i : grid0.Coords) (arg1 : Memref sig .tc .vmem S1x1024x2048 .i8) (harg1 : arg1.IsWhole) (arg2 : Memref sig .tc .vmem S1x256x128 .bf16) (harg2 : arg2.IsWhole) (arg3 : Memref sig .tc .vmem S1x256x128 .bf16) (harg3 : arg3.IsWhole) (arg4 : Memref sig .tc .vmem S1x4x256 .f32) (harg4 : arg4.IsWhole) (arg5 : Memref sig .tc .vmem S1x16384x128 .bf16) (harg5 : arg5.IsWhole) (arg6 : Memref sig .tc .vmem S128x128 .bf16) (harg6 : arg6.IsWhole) (arg7 : Memref sig .tc .vmem S256x128 .bf16) (harg7 : arg7.IsWhole) (arg8 : Memref sig .tc .vmem S128x256 .bf16) (harg8 : arg8.IsWhole) (arg9 : Memref sig .tc .vmem S1x1024x2048 .i8) (harg9 : arg9.IsWhole) (arg10 : Memref sig .tc .vmem S1x256x128 .bf16) (harg10 : arg10.IsWhole) (arg11 : Memref sig .tc .vmem S16384x256 .f32) (harg11 : arg11.IsWhole) (arg12 : Memref sig .tc .vmem S256x256 .f32) (harg12 : arg12.IsWhole) (arg13 : Memref sig .tc .vmem S256x2x256 .bf16) (harg13 : arg13.IsWhole) (arg14 : Memref sig .tc .vmem S256x256 .f32) (harg14 : arg14.IsWhole) (arg15 : Memref sig .tc .vmem S8x256 .f32) (harg15 : arg15.IsWhole) (arg16 : Memref sig .tc .vmem S128x256 .bf16) (harg16 : arg16.IsWhole) (hc : ¬ k0_cond1 i = 1#1) (x1 : Vec Ideal S1x1024x2048 .i8) (x2 : Vec Ideal S1x256x128 .bf16) (x3 : Vec Ideal S1x256x128 .bf16) (x4 : Vec Ideal S1x4x256 .f32) (x5 : Vec Ideal S1x16384x128 .bf16) (x6 : Vec Ideal S128x128 .bf16) (x7 : Vec Ideal S256x128 .bf16) (x8 : Vec Ideal S128x256 .bf16) (x9 : Vec Ideal S1x1024x2048 .i8) (x10 : Vec Ideal S1x256x128 .bf16) (y : Vec Ideal S16384x256 .f32) (q : Vec Ideal S256x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y ∗ owns (c : Thread nD τ) arg12 fullShare q ∗ (∃ d : Vec Ideal S256x2x256 .bf16, owns (c : Thread nD τ) arg13 fullShare d) ∗ (∃ d : Vec Ideal S256x256 .f32, owns (c : Thread nD τ) arg14 fullShare d) ∗ (∃ d : Vec Ideal S8x256 .f32, owns (c : Thread nD τ) arg15 fullShare d) ∗ (∃ d : Vec Ideal S128x256 .bf16, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (codesVec y q) ∗ owns (c : Thread nD τ) arg10 fullShare (stepScale (stepM x1 x2 x3 x5 x6 x7) x4 x8) ∗ owns (c : Thread nD τ) arg11 fullShare (rowsVec (stepM x1 x2 x3 x5 x6 x7)) ∗ owns (c : Thread nD τ) arg12 fullShare (stepQ (stepM x1 x2 x3 x5 x6 x7) x4) ∗ (∃ d : Vec Ideal S256x2x256 .bf16, owns (c : Thread nD τ) arg13 fullShare d) ∗ (∃ d : Vec Ideal S256x256 .f32, owns (c : Thread nD τ) arg14 fullShare d) ∗ (∃ d : Vec Ideal S8x256 .f32, owns (c : Thread nD τ) arg15 fullShare d) ∗ (∃ d : Vec Ideal S128x256 .bf16, owns (c : Thread nD τ) arg16 fullShare d)) -∗ K ⟨⟩))
      ⊢ wp frame (wpE (defs₀ (F := Ideal)) Variants.none c none) Set.univ (cc0_dora_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%d13, %f13, %h13, H13⟩, ⟨%d14, %f14, %h14, H14⟩, ⟨%d15, %f15, %h15, H15⟩, ⟨%d16, %f16, %h16, H16⟩, Hk⟩
  subst h1
  subst h2
  subst h3
  subst h4
  subst h5
  subst h6
  subst h7
  subst h8
  subst h11
  subst h12
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16).2.2.2.2.2.2.2.2 Set.univ K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, H14, H15, H16⟩
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact read9B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H10]
  · iexists _; isplitr; swap; · iexact H10
    ipureintro; exact read10B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H11]
  · iexists _; isplitr; swap; · iexact H11
    ipureintro; exact read11B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H12]
  · iexists _; isplitr; swap; · iexact H12
    ipureintro; exact read12B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc f1 f2 f3 f4 f5 f6 f7 f8 f9 f10 f11 f12 f13 f14 f15 f16
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

end Cert.KernelIdeal.Hand

end
-- ==== Proof.KernelIdeal.Dats.lean ====
/- The region's proof data: what the body leaves at every grid point, and what it carries from one point to the next. -/
module

public import proofs.«01_k».proof.Proof.KernelIdeal.BodyVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

local notation "𝕄" => MT nD τ sig Unit (Elt Ideal) ℕ (UR sig nD τ) ℕ

variable (m : (ℓ : Loc nD τ sig) → Buf (Elt Ideal) ℓ) (ρ : Dev nD → PrngReg)

/-- The block of codes that point `t` reads. -/
abbrev blk0 (c : Dev nD) (t : Fin cfg0.N) : Vec Ideal S1x1024x2048 .i8 := iblk m c 0 t
/-- The block of scales that point `t` reads. -/
abbrev blk1 (c : Dev nD) (t : Fin cfg0.N) : Vec Ideal S1x256x128 .bf16 := iblk m c 1 t
/-- The block of low-rank rows that point `t` reads. -/
abbrev blk2 (c : Dev nD) (t : Fin cfg0.N) : Vec Ideal S1x256x128 .bf16 := iblk m c 2 t
/-- The block of magnitudes that point `t` reads. -/
abbrev blk3 (c : Dev nD) (t : Fin cfg0.N) : Vec Ideal S1x4x256 .f32 := iblk m c 3 t
/-- The block of low-rank columns that point `t` reads. -/
abbrev blk4 (c : Dev nD) (t : Fin cfg0.N) : Vec Ideal S1x16384x128 .bf16 := iblk m c 4 t
/-- The block of permutation that point `t` reads. -/
abbrev blk5 (c : Dev nD) (t : Fin cfg0.N) : Vec Ideal S128x128 .bf16 := iblk m c 5 t
/-- The block of expansion that point `t` reads. -/
abbrev blk6 (c : Dev nD) (t : Fin cfg0.N) : Vec Ideal S256x128 .bf16 := iblk m c 6 t
/-- The block of collection that point `t` reads. -/
abbrev blk7 (c : Dev nD) (t : Fin cfg0.N) : Vec Ideal S128x256 .bf16 := iblk m c 7 t

/-- The merged rows of the block that point `t` reads. -/
def rowsAt (c : Dev nD) (t : Fin cfg0.N) : Fin 16384 → Fin 256 → EReal :=
  stepM (blk0 m c t) (blk1 m c t) (blk2 m c t) (blk4 m c t) (blk5 m c t) (blk6 m c t)

/-- The multipliers of the block that point `t` reads. -/
def multAt (c : Dev nD) (t : Fin cfg0.N) : Vec Ideal S256x256 .f32 := stepQ (rowsAt m c t) (blk3 m c t)

/-- The scales that point `t` writes. -/
def scalesAt (c : Dev nD) (t : Fin cfg0.N) : Vec Ideal S1x256x128 .bf16 := stepScale (rowsAt m c t) (blk3 m c t) (blk7 m c t)

/-- The point before `t`. -/
def prevPt (t : Fin cfg0.N) : Fin cfg0.N := ⟨t.val - 1, Nat.lt_of_le_of_lt (Nat.sub_le _ _) t.isLt⟩

/-- The codes that point `t` writes: those of the rows of the point before; at the first point, zeros. -/
def codesOut (c : Dev nD) (t : Fin cfg0.N) : Vec Ideal S1x1024x2048 .i8 :=
  if t.val = 0 then codesVec (fun _ => 0) (fun _ => 0) else codesVec (rowsVec (rowsAt m c (prevPt t))) (multAt m c (prevPt t))

/-- What the region holds before position `n`: before the first point every scratch buffer at anything; later the rows
    and the multipliers of the point before, the other scratch buffers at anything. -/
def PhiS (c : Dev nD) : (n : ℕ) → n ≤ cfg0.N → sProp 𝕄
  | 0, _ => ΦA spec0 c
  | n + 1, hn => iprop((owns (c : Thread nD τ) (Memref.whole cc0_scratch0) fullShare (rowsVec (rowsAt m c ⟨n, hn⟩)) ∗ owns (c : Thread nD τ) (Memref.whole cc0_scratch1) fullShare (multAt m c ⟨n, hn⟩) ∗ (∃ d : Vec Ideal S256x2x256 .bf16, owns (c : Thread nD τ) (Memref.whole cc0_scratch2) fullShare d) ∗ (∃ d : Vec Ideal S256x256 .f32, owns (c : Thread nD τ) (Memref.whole cc0_scratch3) fullShare d) ∗ (∃ d : Vec Ideal S8x256 .f32, owns (c : Thread nD τ) (Memref.whole cc0_scratch4) fullShare d) ∗ (∃ d : Vec Ideal S128x256 .bf16, owns (c : Thread nD τ) (Memref.whole cc0_scratch5) fullShare d)) ∗ ∃ r, prngReg c r)

theorem PhiS_zero (c : Dev nD) (n : ℕ) (h : n ≤ cfg0.N) (hz : n = 0) : PhiS m c n h = ΦA spec0 c := by
  subst hz; rfl

theorem PhiS_pos (c : Dev nD) (n : ℕ) (h : n ≤ cfg0.N) (hz : n ≠ 0) :
    PhiS m c n h = iprop((owns (c : Thread nD τ) (Memref.whole cc0_scratch0) fullShare (rowsVec (rowsAt m c ⟨n - 1, by omega⟩)) ∗ owns (c : Thread nD τ) (Memref.whole cc0_scratch1) fullShare (multAt m c ⟨n - 1, by omega⟩) ∗ (∃ d : Vec Ideal S256x2x256 .bf16, owns (c : Thread nD τ) (Memref.whole cc0_scratch2) fullShare d) ∗ (∃ d : Vec Ideal S256x256 .f32, owns (c : Thread nD τ) (Memref.whole cc0_scratch3) fullShare d) ∗ (∃ d : Vec Ideal S8x256 .f32, owns (c : Thread nD τ) (Memref.whole cc0_scratch4) fullShare d) ∗ (∃ d : Vec Ideal S128x256 .bf16, owns (c : Thread nD τ) (Memref.whole cc0_scratch5) fullShare d)) ∗ ∃ r, prngReg c r) := by
  cases n with
  | zero => exact absurd rfl hz
  | succ n => rfl

/-- The proof data: the inputs' buffers keep their blocks, the outputs' hold `codesOut` and `scalesAt`. -/
def dats (_ : Fin 1) (c : Dev nD) : Dat τ (Elt Ideal) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codesOut m c t
    | ⟨9, _⟩ => scalesAt m c t
  Φ t := PhiS m c t.val (Nat.le_of_lt_succ t.isLt)
  q _ := fullShare
  owed _ := 0

theorem A_eq (c : Dev nD) (w : Fin cfg0.W) : (dats m 0 c).A w = V m c (arrRef spec0 w) := by
  dsimp only [dats]

theorem PhiS_castSucc (c : Dev nD) (t : Fin cfg0.N) :
    (dats m 0 c).Φ t.castSucc = PhiS m c t.val (Nat.le_of_lt t.isLt) := by
  dsimp only [dats]; exact Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = codesOut m c t := by dsimp only [dats]
theorem after0_9 (c : Dev nD) (t : Fin cfg0.N) : (dats m 0 c).after 9 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The first point is the one whose condition holds. -/
theorem first_iff (t : Fin cfg0.N) : k0_cond1 (grid0.coords t) = 1#1 ↔ t.val = 0 := by
  revert t; decide

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), PhiS_castSucc]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  rw [show (dats m 0 c).leavesExact 5 t = owns (c : Thread nD τ) (st0_5 t) fullShare ((dats m 0 c).after 5 t) from rfl, after0_5]
  rw [show (dats m 0 c).leavesExact 6 t = owns (c : Thread nD τ) (st0_6 t) fullShare ((dats m 0 c).after 6 t) from rfl, after0_6]
  rw [show (dats m 0 c).leavesExact 7 t = owns (c : Thread nD τ) (st0_7 t) fullShare ((dats m 0 c).after 7 t) from rfl, after0_7]
  rw [show (dats m 0 c).leavesExact 8 t = owns (c : Thread nD τ) (st0_8 t) fullShare ((dats m 0 c).after 8 t) from rfl, after0_8]
  rw [show (dats m 0 c).leavesExact 9 t = owns (c : Thread nD τ) (st0_9 t) fullShare ((dats m 0 c).after 9 t) from rfl, after0_9]
  by_cases hz : t.val = 0
  ·
    rw [PhiS_zero m c _ _ hz, PhiA0_eq]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ _ _ _ _ _ _ _ _ _ _ ((first_iff t).mpr hz) (blk0 m c t) (blk1 m c t) (blk2 m c t) (blk3 m c t) (blk4 m c t) (blk5 m c t) (blk6 m c t) (blk7 m c t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · rw [codesOut, if_pos hz]; iexact H8
    iexact H9
  ·
    rw [PhiS_pos m c _ _ hz]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_later c (grid0.coords t) _ _ _ _ _ _ _ _ _ _ _ _ _ _ _ _ _ _ _ _ _ _ _ _ _ _ _ _ _ _ _ _ (fun h => hz ((first_iff t).mp h)) (blk0 m c t) (blk1 m c t) (blk2 m c t) (blk3 m c t) (blk4 m c t) (blk5 m c t) (blk6 m c t) (blk7 m c t) _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · rw [codesOut, if_neg hz]; iexact H8
    iexact H9

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the carried rows and multipliers are forgotten. -/
theorem hout (c : Dev nD) : (dats m 0 c).Φ (Fin.last cfg0.N) ⊢ ΦA spec0 c := by
  rw [show (dats m 0 c).Φ (Fin.last cfg0.N) = PhiS m c cfg0.N le_rfl from rfl, PhiS_pos m c _ _ (by rw [show cfg0.N = 57 from N_0]; omega), PhiA0_eq]
  iintro ⟨⟨S0, S1, S2, S3, S4, S5⟩, Hg⟩
  isplitl [S0 S1 S2 S3 S4 S5]
  · isplitl [S0]; · iexists _; iexact S0
    isplitl [S1]; · iexists _; iexact S1
    isplitl [S2]; · iexact S2
    isplitl [S3]; · iexact S3
    isplitl [S4]; · iexact S4
    iexact S5
  iexact Hg

set_option backward.isDefEq.respectTransparency.types false in
set_option maxHeartbeats 1600000 in
/-- The launch: every array of the pipeline at what the proof data say, every other unscoped buffer as the host lines
    before the region left it. -/
theorem run_vals : θ_run defs (onTc (τ := τ) (main (F := Ideal))) (s₀ m ρ) (fun r => FramePost cfgs (dats m) 0 (V m) r ∧ r.2.sem = fun _ => 0) :=
  θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

end Cert.KernelIdeal.Hand

end
-- ==== Proof.KernelIdeal.Tables.lean ====
/- The constant tables: a table printed as a match over its rows and columns is its entries' formula. -/
module

public import proofs.«01_k».proof.Proof.KernelIdeal.Dats
public import proofs.«01_k».proof.Proof.KernelIdeal.Spec
public import Idealize.ShloMosaic.Lib.StableHlo.ReadAt
public import Idealize.ShloMosaic.Lib.Pointwise
public import Idealize.ShloMosaic.Lib.Pipeline.ValueKit
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

/-- A row of 128 entries, by the index's last digit. -/
def row128 (f : ℕ → BitVec 16) (i : ℕ) : BitVec 16 := match i % 128 with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#16

/-- A table of 128 rows. -/
def tab128 (f : ℕ → ℕ → BitVec 16) (i : ℕ) : BitVec 16 := match i / 128 with
  | 0 => row128 (f 0) i
  | 1 => row128 (f 1) i
  | 2 => row128 (f 2) i
  | 3 => row128 (f 3) i
  | 4 => row128 (f 4) i
  | 5 => row128 (f 5) i
  | 6 => row128 (f 6) i
  | 7 => row128 (f 7) i
  | 8 => row128 (f 8) i
  | 9 => row128 (f 9) i
  | 10 => row128 (f 10) i
  | 11 => row128 (f 11) i
  | 12 => row128 (f 12) i
  | 13 => row128 (f 13) i
  | 14 => row128 (f 14) i
  | 15 => row128 (f 15) i
  | 16 => row128 (f 16) i
  | 17 => row128 (f 17) i
  | 18 => row128 (f 18) i
  | 19 => row128 (f 19) i
  | 20 => row128 (f 20) i
  | 21 => row128 (f 21) i
  | 22 => row128 (f 22) i
  | 23 => row128 (f 23) i
  | 24 => row128 (f 24) i
  | 25 => row128 (f 25) i
  | 26 => row128 (f 26) i
  | 27 => row128 (f 27) i
  | 28 => row128 (f 28) i
  | 29 => row128 (f 29) i
  | 30 => row128 (f 30) i
  | 31 => row128 (f 31) i
  | 32 => row128 (f 32) i
  | 33 => row128 (f 33) i
  | 34 => row128 (f 34) i
  | 35 => row128 (f 35) i
  | 36 => row128 (f 36) i
  | 37 => row128 (f 37) i
  | 38 => row128 (f 38) i
  | 39 => row128 (f 39) i
  | 40 => row128 (f 40) i
  | 41 => row128 (f 41) i
  | 42 => row128 (f 42) i
  | 43 => row128 (f 43) i
  | 44 => row128 (f 44) i
  | 45 => row128 (f 45) i
  | 46 => row128 (f 46) i
  | 47 => row128 (f 47) i
  | 48 => row128 (f 48) i
  | 49 => row128 (f 49) i
  | 50 => row128 (f 50) i
  | 51 => row128 (f 51) i
  | 52 => row128 (f 52) i
  | 53 => row128 (f 53) i
  | 54 => row128 (f 54) i
  | 55 => row128 (f 55) i
  | 56 => row128 (f 56) i
  | 57 => row128 (f 57) i
  | 58 => row128 (f 58) i
  | 59 => row128 (f 59) i
  | 60 => row128 (f 60) i
  | 61 => row128 (f 61) i
  | 62 => row128 (f 62) i
  | 63 => row128 (f 63) i
  | 64 => row128 (f 64) i
  | 65 => row128 (f 65) i
  | 66 => row128 (f 66) i
  | 67 => row128 (f 67) i
  | 68 => row128 (f 68) i
  | 69 => row128 (f 69) i
  | 70 => row128 (f 70) i
  | 71 => row128 (f 71) i
  | 72 => row128 (f 72) i
  | 73 => row128 (f 73) i
  | 74 => row128 (f 74) i
  | 75 => row128 (f 75) i
  | 76 => row128 (f 76) i
  | 77 => row128 (f 77) i
  | 78 => row128 (f 78) i
  | 79 => row128 (f 79) i
  | 80 => row128 (f 80) i
  | 81 => row128 (f 81) i
  | 82 => row128 (f 82) i
  | 83 => row128 (f 83) i
  | 84 => row128 (f 84) i
  | 85 => row128 (f 85) i
  | 86 => row128 (f 86) i
  | 87 => row128 (f 87) i
  | 88 => row128 (f 88) i
  | 89 => row128 (f 89) i
  | 90 => row128 (f 90) i
  | 91 => row128 (f 91) i
  | 92 => row128 (f 92) i
  | 93 => row128 (f 93) i
  | 94 => row128 (f 94) i
  | 95 => row128 (f 95) i
  | 96 => row128 (f 96) i
  | 97 => row128 (f 97) i
  | 98 => row128 (f 98) i
  | 99 => row128 (f 99) i
  | 100 => row128 (f 100) i
  | 101 => row128 (f 101) i
  | 102 => row128 (f 102) i
  | 103 => row128 (f 103) i
  | 104 => row128 (f 104) i
  | 105 => row128 (f 105) i
  | 106 => row128 (f 106) i
  | 107 => row128 (f 107) i
  | 108 => row128 (f 108) i
  | 109 => row128 (f 109) i
  | 110 => row128 (f 110) i
  | 111 => row128 (f 111) i
  | 112 => row128 (f 112) i
  | 113 => row128 (f 113) i
  | 114 => row128 (f 114) i
  | 115 => row128 (f 115) i
  | 116 => row128 (f 116) i
  | 117 => row128 (f 117) i
  | 118 => row128 (f 118) i
  | 119 => row128 (f 119) i
  | 120 => row128 (f 120) i
  | 121 => row128 (f 121) i
  | 122 => row128 (f 122) i
  | 123 => row128 (f 123) i
  | 124 => row128 (f 124) i
  | 125 => row128 (f 125) i
  | 126 => row128 (f 126) i
  | 127 => row128 (f 127) i
  | _ => 0#16

/-- A table of 128 rows, the rows before it apart. -/
def mid128 (f : ℕ → ℕ → BitVec 16) (i : ℕ) : BitVec 16 := match i / 128 % 128 with
  | 0 => row128 (f 0) i
  | 1 => row128 (f 1) i
  | 2 => row128 (f 2) i
  | 3 => row128 (f 3) i
  | 4 => row128 (f 4) i
  | 5 => row128 (f 5) i
  | 6 => row128 (f 6) i
  | 7 => row128 (f 7) i
  | 8 => row128 (f 8) i
  | 9 => row128 (f 9) i
  | 10 => row128 (f 10) i
  | 11 => row128 (f 11) i
  | 12 => row128 (f 12) i
  | 13 => row128 (f 13) i
  | 14 => row128 (f 14) i
  | 15 => row128 (f 15) i
  | 16 => row128 (f 16) i
  | 17 => row128 (f 17) i
  | 18 => row128 (f 18) i
  | 19 => row128 (f 19) i
  | 20 => row128 (f 20) i
  | 21 => row128 (f 21) i
  | 22 => row128 (f 22) i
  | 23 => row128 (f 23) i
  | 24 => row128 (f 24) i
  | 25 => row128 (f 25) i
  | 26 => row128 (f 26) i
  | 27 => row128 (f 27) i
  | 28 => row128 (f 28) i
  | 29 => row128 (f 29) i
  | 30 => row128 (f 30) i
  | 31 => row128 (f 31) i
  | 32 => row128 (f 32) i
  | 33 => row128 (f 33) i
  | 34 => row128 (f 34) i
  | 35 => row128 (f 35) i
  | 36 => row128 (f 36) i
  | 37 => row128 (f 37) i
  | 38 => row128 (f 38) i
  | 39 => row128 (f 39) i
  | 40 => row128 (f 40) i
  | 41 => row128 (f 41) i
  | 42 => row128 (f 42) i
  | 43 => row128 (f 43) i
  | 44 => row128 (f 44) i
  | 45 => row128 (f 45) i
  | 46 => row128 (f 46) i
  | 47 => row128 (f 47) i
  | 48 => row128 (f 48) i
  | 49 => row128 (f 49) i
  | 50 => row128 (f 50) i
  | 51 => row128 (f 51) i
  | 52 => row128 (f 52) i
  | 53 => row128 (f 53) i
  | 54 => row128 (f 54) i
  | 55 => row128 (f 55) i
  | 56 => row128 (f 56) i
  | 57 => row128 (f 57) i
  | 58 => row128 (f 58) i
  | 59 => row128 (f 59) i
  | 60 => row128 (f 60) i
  | 61 => row128 (f 61) i
  | 62 => row128 (f 62) i
  | 63 => row128 (f 63) i
  | 64 => row128 (f 64) i
  | 65 => row128 (f 65) i
  | 66 => row128 (f 66) i
  | 67 => row128 (f 67) i
  | 68 => row128 (f 68) i
  | 69 => row128 (f 69) i
  | 70 => row128 (f 70) i
  | 71 => row128 (f 71) i
  | 72 => row128 (f 72) i
  | 73 => row128 (f 73) i
  | 74 => row128 (f 74) i
  | 75 => row128 (f 75) i
  | 76 => row128 (f 76) i
  | 77 => row128 (f 77) i
  | 78 => row128 (f 78) i
  | 79 => row128 (f 79) i
  | 80 => row128 (f 80) i
  | 81 => row128 (f 81) i
  | 82 => row128 (f 82) i
  | 83 => row128 (f 83) i
  | 84 => row128 (f 84) i
  | 85 => row128 (f 85) i
  | 86 => row128 (f 86) i
  | 87 => row128 (f 87) i
  | 88 => row128 (f 88) i
  | 89 => row128 (f 89) i
  | 90 => row128 (f 90) i
  | 91 => row128 (f 91) i
  | 92 => row128 (f 92) i
  | 93 => row128 (f 93) i
  | 94 => row128 (f 94) i
  | 95 => row128 (f 95) i
  | 96 => row128 (f 96) i
  | 97 => row128 (f 97) i
  | 98 => row128 (f 98) i
  | 99 => row128 (f 99) i
  | 100 => row128 (f 100) i
  | 101 => row128 (f 101) i
  | 102 => row128 (f 102) i
  | 103 => row128 (f 103) i
  | 104 => row128 (f 104) i
  | 105 => row128 (f 105) i
  | 106 => row128 (f 106) i
  | 107 => row128 (f 107) i
  | 108 => row128 (f 108) i
  | 109 => row128 (f 109) i
  | 110 => row128 (f 110) i
  | 111 => row128 (f 111) i
  | 112 => row128 (f 112) i
  | 113 => row128 (f 113) i
  | 114 => row128 (f 114) i
  | 115 => row128 (f 115) i
  | 116 => row128 (f 116) i
  | 117 => row128 (f 117) i
  | 118 => row128 (f 118) i
  | 119 => row128 (f 119) i
  | 120 => row128 (f 120) i
  | 121 => row128 (f 121) i
  | 122 => row128 (f 122) i
  | 123 => row128 (f 123) i
  | 124 => row128 (f 124) i
  | 125 => row128 (f 125) i
  | 126 => row128 (f 126) i
  | 127 => row128 (f 127) i
  | _ => 0#16

theorem row128_apply (f : ℕ → BitVec 16) (i : ℕ) : row128 f i = f (i % 128) := by
  unfold row128
  have h : i % 128 < 128 := Nat.mod_lt _ (by decide)
  generalize i % 128 = n at h ⊢
  interval_cases n <;> rfl

theorem tab128_apply (f : ℕ → ℕ → BitVec 16) (i : ℕ) (hi : i < 16384) : tab128 f i = f (i / 128) (i % 128) := by
  rw [← row128_apply (f (i / 128)) i]
  unfold tab128
  have h : i / 128 < 128 := by omega
  generalize i / 128 = n at h ⊢
  interval_cases n <;> rfl

theorem mid128_apply (f : ℕ → ℕ → BitVec 16) (i : ℕ) : mid128 f i = f (i / 128 % 128) (i % 128) := by
  rw [← row128_apply (f (i / 128 % 128)) i]
  unfold mid128
  have h : i / 128 % 128 < 128 := Nat.mod_lt _ (by decide)
  generalize i / 128 % 128 = n at h ⊢
  interval_cases n <;> rfl

/-- A table of 256 rows. -/
def tab256 (f : ℕ → ℕ → BitVec 16) (i : ℕ) : BitVec 16 := match i / 16384 with
  | 0 => mid128 f i
  | 1 => mid128 (fun r => f (128 + r)) i
  | _ => 0#16

theorem tab256_apply (f : ℕ → ℕ → BitVec 16) (i : ℕ) (hi : i < 32768) : tab256 f i = f (i / 128) (i % 128) := by
  unfold tab256
  have h : i / 16384 < 2 := by omega
  by_cases h0 : i / 16384 = 0
  · rw [h0]
    show mid128 f i = _
    rw [mid128_apply, show i / 128 % 128 = i / 128 by omega]
  · rw [show i / 16384 = 1 by omega]
    show mid128 (fun r => f (128 + r)) i = _
    rw [mid128_apply, show 128 + i / 128 % 128 = i / 128 by omega]

theorem lit0t_eq : lit0t = tab128 (fun r j => if j = 16 * (r / 16) + 8 * (r / 4 % 2) + 2 * (r % 4) + r / 8 % 2 then 0x3FC0#16 else 0x0000#16) := by
  funext i
  rfl

theorem lit1t_eq : lit1t = tab256 (fun r j => if j = r % 4 * 32 + r / 8 then 0x3F80#16 else 0x0000#16) := by
  funext i
  rfl

theorem lit2t_eq : lit2t = tab256 (fun r j => if r % 2 * 128 + j = 8 * (r / 2 % 32) + r / 64 then 0x3F80#16 else 0x0000#16) := by
  funext i
  rfl

/-- The permutation's table: row `16u+8h+4p+k` has its entry at column `16u+8p+2k+h`. -/
theorem lit0_apply (i j : Fin 128) : lit0 ⟨i.val * 128 + j.val, by omega⟩
    = if j.val = 16 * (i.val / 16) + 8 * (i.val / 4 % 2) + 2 * (i.val % 4) + i.val / 8 % 2 then 0x3FC0#16 else 0x0000#16 := by
  show lit0t (i.val * 128 + j.val) = _
  rw [lit0t_eq, tab128_apply _ _ (by omega), show (i.val * 128 + j.val) / 128 = i.val by omega, show (i.val * 128 + j.val) % 128 = j.val by omega]

/-- The expansion's table: row `8g+s` has its entry at column `32(s mod 4)+g`. -/
theorem lit1_apply (i : Fin 256) (j : Fin 128) : lit1 ⟨i.val * 128 + j.val, by omega⟩
    = if j.val = i.val % 4 * 32 + i.val / 8 then 0x3F80#16 else 0x0000#16 := by
  show lit1t (i.val * 128 + j.val) = _
  rw [lit1t_eq, tab256_apply _ _ (by omega), show (i.val * 128 + j.val) / 128 = i.val by omega, show (i.val * 128 + j.val) % 128 = j.val by omega]

/-- The collection's table: row `32k+g` has its entry at column `8g+k`. -/
theorem lit2_apply (i : Fin 128) (j : Fin 256) : lit2 ⟨i.val * 256 + j.val, by omega⟩
    = if j.val = 8 * (i.val % 32) + i.val / 32 then 0x3F80#16 else 0x0000#16 := by
  show lit2t (i.val * 256 + j.val) = _
  rw [lit2t_eq, tab256_apply _ _ (by omega)]
  have h1 : (i.val * 256 + j.val) / 128 / 2 = i.val := by rw [Nat.div_div_eq_div_mul]; omega
  have h2 : (i.val * 256 + j.val) / 128 / 64 = i.val / 32 := by rw [Nat.div_div_eq_div_mul]; omega
  have h3 : (i.val * 256 + j.val) / 128 % 2 * 128 + (i.val * 256 + j.val) % 128 = j.val := by omega
  rw [h1, h2, h3]

end Cert.KernelIdeal.Hand
-- ==== Proof.KernelIdeal.HostA.lean ====
/- The arrays that the region reads, at an index, as the arguments' elements, and the blocks of them that a point reads. -/
module

public import proofs.«01_k».proof.Proof.KernelIdeal.Dats
public import proofs.«01_k».proof.Proof.KernelIdeal.Tables
public import proofs.«01_k».proof.Proof.KernelIdeal.Spec
public import Idealize.ShloMosaic.Lib.StableHlo.ReadAt
public import Idealize.ShloMosaic.Lib.Pointwise
public import Idealize.ShloMosaic.Lib.Pipeline.ValueKit
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable (m : (ℓ : Loc nD τ sig) → Buf (Elt Ideal) ℓ)

/-- The signed integer zero is the float zero. -/
theorem sitofp_zero : FloatOps.sitofp (F := Ideal) FTy.bf16 0#32 = (0 : EReal) := by
  show (((0#32).toInt : ℝ) : EReal) = 0
  simp

set_option maxHeartbeats 1600000 in
/-- The scales that the region reads, four rows to a line. -/
theorem V_v0 (c : Dev nD) (i : Fin 4) (j : Fin 3584) (k : Fin 128) :
    (V m c main_v0 : Vec Ideal S4x3584x128 .bf16) (ix3 i j k) = (m (c, Proc.tc.devRef main_arg1) : Vec Ideal S4x14336x32 .bf16) (ix3 i ⟨j.val * 4 + k.val / 32, by omega⟩ ⟨k.val % 32, Nat.mod_lt _ (by decide)⟩) := by
  unfold V
  simp only [List.flatten_cons, List.flatten_nil, hostOps0, hostOps0_1, hostOps0_2, hostOps0_3, List.cons_append, List.nil_append, List.append_nil]
  after_reads_at

set_option maxHeartbeats 1600000 in
/-- The low-rank rows, four to a line of 96, and zeros after them. -/
theorem V_v2 (c : Dev nD) (i : Fin 4) (j : Fin 3584) (k : Fin 128) :
    (V m c main_v2 : Vec Ideal S4x3584x128 .bf16) (ix3 i j k)
      = if h : k.val < 96 then (m (c, Proc.tc.devRef main_arg3) : Vec Ideal S4x14336x24 .bf16) (ix3 i ⟨j.val * 4 + k.val / 24, by omega⟩ ⟨k.val % 24, Nat.mod_lt _ (by decide)⟩) else (0 : EReal) := by
  unfold V
  simp only [List.flatten_cons, List.flatten_nil, hostOps0, hostOps0_1, hostOps0_2, hostOps0_3, List.cons_append, List.nil_append, List.append_nil]
  after_reads_at
  rw [sitofp_zero]

set_option maxHeartbeats 1600000 in
/-- The magnitudes, by a row's position in its four. -/
theorem V_v4 (c : Dev nD) (i : Fin 4) (j : Fin 4) (k : Fin 3584) :
    (V m c main_v4 : Vec Ideal S4x4x3584 .f32) (ix3 i j k) = (m (c, Proc.tc.devRef main_arg4) : Vec Ideal S4x14336 .f32) (ix2 i ⟨k.val * 4 + j.val, by omega⟩) := by
  unfold V
  simp only [List.flatten_cons, List.flatten_nil, hostOps0, hostOps0_1, hostOps0_2, hostOps0_3, List.cons_append, List.nil_append, List.append_nil]
  after_reads_at

/-- The identity matrix's elements, as they are computed. -/
theorem eye_apply : ∀ (a : Fin 4) (b : Fin 4), FloatOps.uitofp (F := Ideal) FTy.bf16
      (IntOp.cmpi CmpIPredicate.eq (IntOp.addi (BitVec.ofNat 32 a.val) 0#32) (BitVec.ofNat 32 b.val)) = if a.val = b.val then (1 : EReal) else 0 := by
  intro a b
  have h : ∀ a b : Fin 4, (IntOp.cmpi CmpIPredicate.eq (IntOp.addi (BitVec.ofNat 32 a.val) 0#32) (BitVec.ofNat 32 b.val)).toNat = if a.val = b.val then 1 else 0 := by decide
  show (((IntOp.cmpi CmpIPredicate.eq (IntOp.addi (BitVec.ofNat 32 a.val) 0#32) (BitVec.ofNat 32 b.val)).toNat : ℝ) : EReal) = _
  rw [h]
  split <;> simp

/-- An element of the low-rank columns. -/
def laArg (c : Dev nD) (b : Fin 4) (r : Fin 24) (col : Fin 4096) : EReal := (m (c, Proc.tc.devRef main_arg2) : Vec Ideal S4x24x4096 .bf16) (ix3 b r col)

set_option maxHeartbeats 1600000 in
/-- The low-rank columns spread over the merged block's rows: each column meets only the lanes of its row's position. -/
theorem V_v20 (c : Dev nD) (i : Fin 4) (j : Fin 16384) (k : Fin 128) :
    (V m c main_v20 : Vec Ideal S4x16384x128 .bf16) (ix3 i j k)
      = if h : k.val < 96 then
          laArg m c i ⟨k.val % 24, Nat.mod_lt _ (by decide)⟩ ⟨j.val / 16 * 4 + j.val / 4 % 2 * 2 + j.val / 8 % 2, by omega⟩
            * (if j.val % 4 = k.val / 24 then (1 : EReal) else 0)
        else (0 : EReal) := by
  unfold V
  simp only [List.flatten_cons, List.flatten_nil, hostOps0, hostOps0_1, hostOps0_2, hostOps0_3, List.cons_append, List.nil_append, List.append_nil]
  after_reads_at
  refine dite_congr rfl (fun h => ?_) fun _ => sitofp_zero
  exact congrArg _ (eye_apply ⟨j.val % 4, Nat.mod_lt _ (by decide)⟩ ⟨k.val / 24, by have h' : k.val < 96 := h; omega⟩)

set_option maxHeartbeats 1600000 in
/-- The permutation, scaled by three halves. -/
theorem V_cst (c : Dev nD) (i : Fin 128) (j : Fin 128) :
    (V m c main_cst : Vec Ideal S128x128 .bf16) (ix2 i j)
      = if j.val = 16 * (i.val / 16) + 8 * (i.val / 4 % 2) + 2 * (i.val % 4) + i.val / 8 % 2 then ((3 / 2 : ℝ) : EReal) else 0 := by
  unfold V
  simp only [List.flatten_cons, List.flatten_nil, hostOps0, hostOps0_1, hostOps0_2, hostOps0_3, List.cons_append, List.nil_append, List.append_nil]
  after_reads_at
  rw [show S128x128.rowMajor (ix2 i j) = ⟨i.val * 128 + j.val, by show _ < 16384; omega⟩ from Fin.ext (Shape.rowMajor_val_two _), lit0_apply]
  split
  · exact ofBits_three_halves
  · exact Ideal.ofBits_zero_bf16

set_option maxHeartbeats 1600000 in
/-- The expansion of scales to rows. -/
theorem V_cst_0 (c : Dev nD) (i : Fin 256) (j : Fin 128) :
    (V m c main_cst_0 : Vec Ideal S256x128 .bf16) (ix2 i j) = if j.val = i.val % 4 * 32 + i.val / 8 then (1 : EReal) else 0 := by
  unfold V
  simp only [List.flatten_cons, List.flatten_nil, hostOps0, hostOps0_1, hostOps0_2, hostOps0_3, List.cons_append, List.nil_append, List.append_nil]
  after_reads_at
  rw [show S256x128.rowMajor (ix2 i j) = ⟨i.val * 128 + j.val, by show _ < 32768; omega⟩ from Fin.ext (Shape.rowMajor_val_two _), lit1_apply]
  split
  · exact Ideal.ofBits_one_bf16
  · exact Ideal.ofBits_zero_bf16

set_option maxHeartbeats 1600000 in
/-- The collection of scales from rows. -/
theorem V_cst_1 (c : Dev nD) (i : Fin 128) (j : Fin 256) :
    (V m c main_cst_1 : Vec Ideal S128x256 .bf16) (ix2 i j) = if j.val = 8 * (i.val % 32) + i.val / 32 then (1 : EReal) else 0 := by
  unfold V
  simp only [List.flatten_cons, List.flatten_nil, hostOps0, hostOps0_1, hostOps0_2, hostOps0_3, List.cons_append, List.nil_append, List.append_nil]
  after_reads_at
  rw [show S128x256.rowMajor (ix2 i j) = ⟨i.val * 256 + j.val, by show _ < 32768; omega⟩ from Fin.ext (Shape.rowMajor_val_two _), lit2_apply]
  split
  · exact Ideal.ofBits_one_bf16
  · exact Ideal.ofBits_zero_bf16

end Cert.KernelIdeal.Hand
-- ==== Proof.KernelIdeal.HostB.lean ====
/- The blocks that a point reads, at an index, as the arguments' elements. -/
module

public import proofs.«01_k».proof.Proof.KernelIdeal.HostA
public import proofs.«01_k».proof.Proof.KernelIdeal.Spec
public import Idealize.ShloMosaic.Lib.StableHlo.ReadAt
public import Idealize.ShloMosaic.Lib.Pointwise
public import Idealize.ShloMosaic.Lib.Pipeline.ValueKit
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable (m : (ℓ : Loc nD τ sig) → Buf (Elt Ideal) ℓ)

theorem idx0 : ∀ t : Fin cfg0.N, win0_0.index t = ![min t.val 55 / 14, min t.val 55 % 14, 0] := by decide +kernel
theorem idx1 : ∀ t : Fin cfg0.N, win0_1.index t = ![min t.val 55 / 14, min t.val 55 % 14, 0] := by decide +kernel
theorem idx2 : ∀ t : Fin cfg0.N, win0_2.index t = ![min t.val 55 / 14, min t.val 55 % 14, 0] := by decide +kernel
theorem idx3 : ∀ t : Fin cfg0.N, win0_3.index t = ![min t.val 55 / 14, 0, min t.val 55 % 14] := by decide +kernel
theorem idx4 : ∀ t : Fin cfg0.N, win0_4.index t = ![min t.val 55 / 14, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![(t.val - 1) / 14, (t.val - 1) % 14, 0] := by decide +kernel
theorem idx9 : ∀ t : Fin cfg0.N, win0_9.index t = ![min t.val 55 / 14, min t.val 55 % 14, 0] := by decide +kernel

/-- The slice whose block point `t` computes. -/
def sliceAt (t : Fin cfg0.N) : Fin 4 := ⟨min t.val 55 / 14, by omega⟩
/-- The row that lane `l` holds at position `k` of its four, in the block that point `t` computes. -/
def rowOf (t : Fin cfg0.N) (l : Fin 256) (k : Fin 4) : Fin 14336 := ⟨1024 * (min t.val 55 % 14) + 4 * l.val + k.val, by omega⟩

theorem blk0_apply (c : Dev nD) (t : Fin cfg0.N) (l : Fin 256) (k : Fin 4) (p : Fin 2048) :
    blk0 m c t (ix3 0 ⟨4 * l.val + k.val, by omega⟩ p) = (m (c, Proc.tc.devRef main_arg0) : Vec Ideal S4x14336x2048 .i8) (ix3 (sliceAt t) (rowOf t l k) p) := by
  rw [← V_main_arg0 m c]
  unfold blk0 sliceAt rowOf
  blk_ext [iblk, idx0]

theorem blk1_apply (c : Dev nD) (t : Fin cfg0.N) (l : Fin 256) (p : Fin 128) :
    blk1 m c t (ix3 0 l p) = (m (c, Proc.tc.devRef main_arg1) : Vec Ideal S4x14336x32 .bf16) (ix3 (sliceAt t) (rowOf t l ⟨p.val / 32, by omega⟩) ⟨p.val % 32, Nat.mod_lt _ (by decide)⟩) := by
  have e : blk1 m c t (ix3 0 l p) = (V m c main_v0 : Vec Ideal S4x3584x128 .bf16) (ix3 (sliceAt t) ⟨256 * (min t.val 55 % 14) + l.val, by omega⟩ p) := by
    unfold blk1 sliceAt
    blk_ext [iblk, idx1]
  rw [e, V_v0]
  exact congrArg (fun r => (m (c, Proc.tc.devRef main_arg1) : Vec Ideal S4x14336x32 .bf16) (ix3 (sliceAt t) r _)) (Fin.ext (by show (256 * (min t.val 55 % 14) + l.val) * 4 + p.val / 32 = 1024 * (min t.val 55 % 14) + 4 * l.val + p.val / 32; omega))

theorem blk2_apply (c : Dev nD) (t : Fin cfg0.N) (l : Fin 256) (k : Fin 4) (r : Fin 24) :
    blk2 m c t (ix3 0 l ⟨k.val * 24 + r.val, by omega⟩) = (m (c, Proc.tc.devRef main_arg3) : Vec Ideal S4x14336x24 .bf16) (ix3 (sliceAt t) (rowOf t l k) r) := by
  have e : blk2 m c t (ix3 0 l ⟨k.val * 24 + r.val, by omega⟩) = (V m c main_v2 : Vec Ideal S4x3584x128 .bf16) (ix3 (sliceAt t) ⟨256 * (min t.val 55 % 14) + l.val, by omega⟩ ⟨k.val * 24 + r.val, by omega⟩) := by
    unfold blk2 sliceAt
    blk_ext [iblk, idx2]
  rw [e, V_v2, dif_pos (by show k.val * 24 + r.val < 96; omega)]
  exact congrArg₂ (fun r q => (m (c, Proc.tc.devRef main_arg3) : Vec Ideal S4x14336x24 .bf16) (ix3 (sliceAt t) r q))
    (Fin.ext (by show (256 * (min t.val 55 % 14) + l.val) * 4 + (k.val * 24 + r.val) / 24 = 1024 * (min t.val 55 % 14) + 4 * l.val + k.val; omega))
    (Fin.ext (by show (k.val * 24 + r.val) % 24 = r.val; omega))

theorem blk3_apply (c : Dev nD) (t : Fin cfg0.N) (k : Fin 4) (l : Fin 256) :
    blk3 m c t (ix3 0 k l) = (m (c, Proc.tc.devRef main_arg4) : Vec Ideal S4x14336 .f32) (ix2 (sliceAt t) (rowOf t l k)) := by
  have e : blk3 m c t (ix3 0 k l) = (V m c main_v4 : Vec Ideal S4x4x3584 .f32) (ix3 (sliceAt t) k ⟨256 * (min t.val 55 % 14) + l.val, by omega⟩) := by
    unfold blk3 sliceAt
    blk_ext [iblk, idx3]
  rw [e, V_v4]
  exact congrArg (fun r => (m (c, Proc.tc.devRef main_arg4) : Vec Ideal S4x14336 .f32) (ix2 (sliceAt t) r)) (Fin.ext (by show (256 * (min t.val 55 % 14) + l.val) * 4 + k.val = 1024 * (min t.val 55 % 14) + 4 * l.val + k.val; omega))

theorem blk4_apply (c : Dev nD) (t : Fin cfg0.N) (ρ : Fin 16384) (j : Fin 128) :
    blk4 m c t (ix3 0 ρ j) = (V m c main_v20 : Vec Ideal S4x16384x128 .bf16) (ix3 (sliceAt t) ρ j) := by
  unfold blk4 sliceAt
  blk_ext [iblk, idx4]

theorem blk5_apply (c : Dev nD) (t : Fin cfg0.N) (i j : Fin 128) : blk5 m c t (ix2 i j) = (V m c main_cst : Vec Ideal S128x128 .bf16) (ix2 i j) := by
  unfold blk5
  blk_ext [iblk, idx5]
theorem blk6_apply (c : Dev nD) (t : Fin cfg0.N) (i : Fin 256) (j : Fin 128) : blk6 m c t (ix2 i j) = (V m c main_cst_0 : Vec Ideal S256x128 .bf16) (ix2 i j) := by
  unfold blk6
  blk_ext [iblk, idx6]
theorem blk7_apply (c : Dev nD) (t : Fin cfg0.N) (i : Fin 128) (j : Fin 256) : blk7 m c t (ix2 i j) = (V m c main_cst_1 : Vec Ideal S128x256 .bf16) (ix2 i j) := by
  unfold blk7
  blk_ext [iblk, idx7]

end Cert.KernelIdeal.Hand
-- ==== Proof.KernelIdeal.Rows.lean ====
/- What a point writes, at an index, as the mathematics of the rows of its block. -/
module

public import proofs.«01_k».proof.Proof.KernelIdeal.StepRows
public import proofs.«01_k».proof.Proof.KernelIdeal.HostB
public import proofs.«01_k».proof.Proof.KernelIdeal.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable (m : (ℓ : Loc nD τ sig) → Buf (Elt Ideal) ℓ)

/-- Row `R` of slice `b`, merged, of the arguments. -/
def argRow (c : Dev nD) (b : Fin 4) (R : Fin 14336) : Fin 2048 → Fin 2 → EReal :=
  mergeAt (fun cc => (m (c, Proc.tc.devRef main_arg0) : Vec Ideal S4x14336x2048 .i8) (ix3 b R cc))
    (fun g => (m (c, Proc.tc.devRef main_arg1) : Vec Ideal S4x14336x32 .bf16) (ix3 b R g))
    (fun r => (m (c, Proc.tc.devRef main_arg3) : Vec Ideal S4x14336x24 .bf16) (ix3 b R r))
    (fun r col => laArg m c b r col)

/-- The magnitude of row `R` of slice `b`. -/
def argMag (c : Dev nD) (b : Fin 4) (R : Fin 14336) : EReal := (m (c, Proc.tc.devRef main_arg4) : Vec Ideal S4x14336 .f32) (ix2 b R)

/-- A point's merged rows are three halves of its block's rows, merged. -/
theorem rows_lane (c : Dev nD) (t : Fin cfg0.N) (l : Fin 256) (k : Fin 4) :
    laneRow (rowsAt m c t) l k = fun cc e => ((3 / 2 : ℝ) : EReal) * argRow m c (sliceAt t) (rowOf t l k) cc e := by
  funext cc e
  unfold rowsAt
  rw [stepM_lane _ _ _ _ _ _ (fun r col => laArg m c (sliceAt t) r col)
    (fun ρ j => (blk4_apply m c t ρ j).trans (V_v20 m c _ ρ j))
    (fun i j => (blk5_apply m c t i j).trans (V_cst m c i j))
    (fun i j => (blk6_apply m c t i j).trans (V_cst_0 m c i j))]
  have e0 : (fun cc : Fin 2048 => blk0 m c t (ix3 0 ⟨4 * l.val + k.val, by omega⟩ cc))
      = fun cc => (m (c, Proc.tc.devRef main_arg0) : Vec Ideal S4x14336x2048 .i8) (ix3 (sliceAt t) (rowOf t l k) cc) := funext fun cc => blk0_apply m c t l k cc
  have e1 : (fun g : Fin 32 => blk1 m c t (ix3 0 l ⟨k.val * 32 + g.val, by omega⟩))
      = fun g => (m (c, Proc.tc.devRef main_arg1) : Vec Ideal S4x14336x32 .bf16) (ix3 (sliceAt t) (rowOf t l k) g) := funext fun g =>
    (blk1_apply m c t l _).trans (congrArg₂ (fun a b => (m (c, Proc.tc.devRef main_arg1) : Vec Ideal S4x14336x32 .bf16) (ix3 (sliceAt t) (rowOf t l a) b))
      (Fin.ext (by dsimp only; omega)) (Fin.ext (by dsimp only; omega)))
  have e2 : (fun r : Fin 24 => blk2 m c t (ix3 0 l ⟨k.val * 24 + r.val, by omega⟩))
      = fun r => (m (c, Proc.tc.devRef main_arg3) : Vec Ideal S4x14336x24 .bf16) (ix3 (sliceAt t) (rowOf t l k) r) := funext fun r => blk2_apply m c t l k r
  rw [e0, e1, e2]
  rfl

/-- The scale of a lane's row is the scale of its block's row, merged. -/
theorem lane_scale (c : Dev nD) (t : Fin cfg0.N) (l : Fin 256) (k : Fin 4) (g : Fin 32) :
    laneScale (rowsAt m c t) l k (blk3 m c t (ix3 0 k l)) g
      = rowScale (argRow m c (sliceAt t) (rowOf t l k)) (argMag m c (sliceAt t) (rowOf t l k)) g := by
  rw [blk3_apply, laneScale, rows_lane]
  exact scale_max (argRow m c (sliceAt t) (rowOf t l k)) (argMag m c (sliceAt t) (rowOf t l k)) g

/-- The scales that a point writes are its block's rows' scales, four rows to a line. -/
theorem scalesAt_apply (c : Dev nD) (t : Fin cfg0.N) (l : Fin 256) (p : Fin 128) :
    scalesAt m c t (ix3 0 l p)
      = rowScale (argRow m c (sliceAt t) (rowOf t l ⟨p.val / 32, by omega⟩)) (argMag m c (sliceAt t) (rowOf t l ⟨p.val / 32, by omega⟩))
          ⟨p.val % 32, Nat.mod_lt _ (by decide)⟩ := by
  unfold scalesAt
  rw [stepScale_apply _ _ _ (fun p r => (blk7_apply m c t p r).trans (V_cst_1 m c p r))]
  exact lane_scale m c t l _ _

/-- The multiplier of a row's group of 64 bytes. -/
theorem multAt_apply (c : Dev nD) (t : Fin cfg0.N) (l : Fin 256) (k : Fin 4) (cc : Fin 2048) :
    multAt m c t (ix2 ⟨8 * (cc.val / 64) + 4 * (cc.val % 2) + k.val, by omega⟩ l)
      = rowMult (fun cc e => ((3 / 2 : ℝ) : EReal) * argRow m c (sliceAt t) (rowOf t l k) cc e) (argMag m c (sliceAt t) (rowOf t l k))
          (rowScale (argRow m c (sliceAt t) (rowOf t l k)) (argMag m c (sliceAt t) (rowOf t l k)) ⟨cc.val / 64, by omega⟩) := by
  have hk := k.isLt
  have h := stepQ_apply (rowsAt m c t) (blk3 m c t) ⟨cc.val / 64, by omega⟩ ⟨4 * (cc.val % 2) + k.val, by omega⟩ l
  rw [show (⟨(⟨4 * (cc.val % 2) + k.val, by omega⟩ : Fin 8).val % 4, Nat.mod_lt _ (by decide)⟩ : Fin 4) = k from Fin.ext (by dsimp only; omega),
    lane_scale, rows_lane, blk3_apply] at h
  refine Eq.trans (congrArg (fun r => multAt m c t (ix2 r l)) (Fin.ext ?_)) h
  dsimp only
  omega

/-- The byte made of a point's rows and multipliers is the byte of its block's row. -/
theorem code_apply (c : Dev nD) (t : Fin cfg0.N) (R : Fin 1024) (cc : Fin 2048) :
    codesVec (rowsVec (rowsAt m c t)) (multAt m c t) (ix3 0 R cc)
      = rowByte (argRow m c (sliceAt t) (rowOf t ⟨R.val / 4, by omega⟩ ⟨R.val % 4, Nat.mod_lt _ (by decide)⟩))
          (argMag m c (sliceAt t) (rowOf t ⟨R.val / 4, by omega⟩ ⟨R.val % 4, Nat.mod_lt _ (by decide)⟩)) cc := by
  have hM (e : Fin 2) := congrFun (congrFun (rows_lane m c t ⟨R.val / 4, by omega⟩ ⟨R.val % 4, Nat.mod_lt _ (by decide)⟩) cc) e
  have hQ := multAt_apply m c t ⟨R.val / 4, by omega⟩ ⟨R.val % 4, Nat.mod_lt _ (by decide)⟩ cc
  have h0 := hM 0
  have h1 := hM 1
  have hb (e : Fin 2) := scale_mul_mult (argRow m c (sliceAt t) (rowOf t ⟨R.val / 4, by omega⟩ ⟨R.val % 4, Nat.mod_lt _ (by decide)⟩))
    (argMag m c (sliceAt t) (rowOf t ⟨R.val / 4, by omega⟩ ⟨R.val % 4, Nat.mod_lt _ (by decide)⟩)) _ (rowScale_ne_zero (argRow m c (sliceAt t) (rowOf t ⟨R.val / 4, by omega⟩ ⟨R.val % 4, Nat.mod_lt _ (by decide)⟩)) (argMag m c (sliceAt t) (rowOf t ⟨R.val / 4, by omega⟩ ⟨R.val % 4, Nat.mod_lt _ (by decide)⟩)) ⟨cc.val / 64, by omega⟩) cc e
  unfold rowByte
  rw [← hb 0, ← hb 1, ← hQ]
  show codeAt (fun ρ l => rowsAt m c t ρ l) (fun r l => multAt m c t (ix2 r l)) R cc = _
  unfold codeAt
  refine congrArg₂ packByte (congrArg (· * _) (Eq.trans ?_ h0)) (congrArg (· * _) (Eq.trans ?_ h1))
  · exact congrArg (fun r => rowsAt m c t r ⟨R.val / 4, by omega⟩) (Fin.ext (by show 16 * (cc.val / 2) + 4 * (cc.val % 2) + R.val % 4 = 16 * (cc.val / 2) + 8 * 0 + 4 * (cc.val % 2) + R.val % 4; omega))
  · exact congrArg (fun r => rowsAt m c t r ⟨R.val / 4, by omega⟩) (Fin.ext (by show 16 * (cc.val / 2) + 8 + 4 * (cc.val % 2) + R.val % 4 = 16 * (cc.val / 2) + 8 * 1 + 4 * (cc.val % 2) + R.val % 4; omega))

end Cert.KernelIdeal.Hand
-- ==== Proof.KernelIdeal.Arrays.lean ====
/- The two results after the last point, as the mathematics of the arguments. -/
module

public import proofs.«01_k».proof.Proof.KernelIdeal.Rows
public import proofs.«01_k».proof.Proof.KernelIdeal.Spec
public import Idealize.ShloMosaic.Lib.StableHlo.ReadAt
public import Idealize.ShloMosaic.Lib.Pointwise
public import Idealize.ShloMosaic.Lib.Pipeline.ValueKit
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
variable (m : (ℓ : Loc nD τ sig) → Buf (Elt Ideal) ℓ)

/-- The new codes, of the arguments. -/
def codesArr (c : Dev nD) : Vec Ideal S4x14336x2048 .i8 := fun ix => rowByte (argRow m c (ix 0) (ix 1)) (argMag m c (ix 0) (ix 1)) (ix 2)

/-- The new scales, of the arguments: four rows of 32 scales to a line. -/
def scalesArr (c : Dev nD) : Vec Ideal S4x3584x128 .bf16 := fun ix =>
  rowScale (argRow m c (ix 0) ⟨(ix 1).val * 4 + (ix 2).val / 32, by have h1 : (ix 1).val < 3584 := (ix 1).isLt; have h2 : (ix 2).val < 128 := (ix 2).isLt; omega⟩)
    (argMag m c (ix 0) ⟨(ix 1).val * 4 + (ix 2).val / 32, by have h1 : (ix 1).val < 3584 := (ix 1).isLt; have h2 : (ix 2).val < 128 := (ix 2).isLt; omega⟩)
    ⟨(ix 2).val % 32, Nat.mod_lt _ (by decide)⟩

/-- The first point writes back no codes. -/
theorem flush8_pos : ∀ t : Fin cfg0.N, (cfg0.win 8).flush t = true → t.val ≠ 0 := by decide +kernel

/-- The block that a point writes back: its slice and its place in the slice. -/
theorem prev_min : ∀ t : Fin cfg0.N, t.val ≠ 0 → min (prevPt t).val 55 = t.val - 1 := by decide +kernel

/-- Where the codes' block of a point lies in the array. -/
theorem emb8 (t : Fin cfg0.N) (ht : t.val ≠ 0) (R : Fin 1024) (cc : Fin 2048) :
    ((win0_8.blk t).view.emb (ix3 0 R cc) : S4x14336x2048.Idx)
      = ix3 (sliceAt (prevPt t)) (rowOf (prevPt t) ⟨R.val / 4, by omega⟩ ⟨R.val % 4, Nat.mod_lt _ (by decide)⟩) cc := by
  have hp := prev_min t ht
  unfold sliceAt rowOf
  blk_ext [idx8, hp]

/-- Where the scales' block of a point lies in the array. -/
theorem emb9 (t : Fin cfg0.N) (l : Fin 256) (p : Fin 128) :
    ((win0_9.blk t).view.emb (ix3 0 l p) : S4x3584x128.Idx)
      = ix3 (sliceAt t) ⟨256 * (min t.val 55 % 14) + l.val, by omega⟩ p := by
  unfold sliceAt
  blk_ext [idx9]

/-- An index of a block with one slice. -/
theorem one_slice {a b : ℕ} (y : (⟨3, ![1, a, b]⟩ : Shape).Idx) : y = ix3 0 (y 1) (y 2) := by
  rw [eq_ix3 y]
  exact congrArg (fun z => ix3 z (y 1) (y 2)) (Subsingleton.elim _ _)

/-- The codes' array after the last point. -/
theorem arr8 (c : Dev nD) : (dats m 0 c).arrAt 8 cfg0.N = codesArr m c := by
  refine (dats m 0 c).arrAt_eq_of_covers 8 _ (by decide +kernel) fun t hf y => ?_
  have ht := flush8_pos t hf
  blk_simp
  rw [after0_8, codesOut, if_neg ht]
  have key : ∀ y : S1x1024x2048.Idx, codesVec (rowsVec (rowsAt m c (prevPt t))) (multAt m c (prevPt t)) y
      = codesArr m c ((win0_8.blk t).view.emb y : S4x14336x2048.Idx) := fun y => by
    obtain ⟨R, cc, rfl⟩ : ∃ R cc, y = ix3 0 R cc := ⟨_, _, one_slice y⟩
    rw [emb8 t ht, code_apply]
    rfl
  exact key y

/-- The scales' array after the last point. -/
theorem arr9 (c : Dev nD) : (dats m 0 c).arrAt 9 cfg0.N = scalesArr m c := by
  refine (dats m 0 c).arrAt_eq_of_covers 9 _ (by decide +kernel) fun t hf y => ?_
  blk_simp
  rw [after0_9]
  have key : ∀ y : S1x256x128.Idx, scalesAt m c t y = scalesArr m c ((win0_9.blk t).view.emb y : S4x3584x128.Idx) := fun y => by
    obtain ⟨l, p, rfl⟩ : ∃ l p, y = ix3 0 l p := ⟨_, _, one_slice y⟩
    rw [emb9 t, scalesAt_apply]
    have h : rowOf t l ⟨p.val / 32, by omega⟩ = ⟨(256 * (min t.val 55 % 14) + l.val) * 4 + p.val / 32, by omega⟩ :=
      Fin.ext (by show 1024 * (min t.val 55 % 14) + 4 * l.val + p.val / 32 = _; dsimp only; omega)
    rw [h]
    rfl
  exact key y

end Cert.KernelIdeal.Hand
-- ==== Proof.KernelIdeal.RefRead.lean ====
/- The reference's two results at an index: a row's new codes and scales, as the mathematics of one row. -/
module

public import proofs.«01_k».proof.Proof.KernelIdeal.Spec
public import proofs.«01_k».proof.Proof.Gen.ReferenceIdeal.Read
public import Idealize.ShloMosaic.Lib.Pointwise

@[expose] public section

set_option maxRecDepth 16384

noncomputable section

namespace Cert.KernelIdeal.Hand

open Idealize.ShloMosaic Idealize.ShloMosaic.Tactic Idealize.SL Cert.ReferenceIdeal Cert.ReferenceIdeal.Read Cert.ReferenceIdeal.Gen

/-- The largest element of a row of 64, from minus infinity. -/
theorem maxRed (y : FVec Ideal S4x14336x32x64 .f32) (b : Fin 4) (R : Fin 14336) (g : Fin 32) :
    (Host.reduce (FloatOps.maximumf (F := Ideal) (φ := .f32)) y (constant (F := Ideal) S_ .f32 0xFF800000#32) reducesTo_S4x14336x32x64_S4x14336x32_d3 h_S_ : Vec Ideal S4x14336x32 .f32) (ix3 b R g)
      = Finset.univ.sup fun k : Fin 64 => (y (ix4 b R g k) : EReal) := by
  pointwise
  rw [ofBits_bot]; rfl

variable (x0 : (⟨S4x14336x2048, .i8⟩ : BufTy).Contents (Elt Ideal)) (x1 : (⟨S4x14336x32, .bf16⟩ : BufTy).Contents (Elt Ideal)) (x2 : (⟨S4x24x4096, .bf16⟩ : BufTy).Contents (Elt Ideal)) (x3 : (⟨S4x14336x24, .bf16⟩ : BufTy).Contents (Elt Ideal)) (x4 : (⟨S4x14336, .f32⟩ : BufTy).Contents (Elt Ideal))

/-- Row `R` of slice `b`, merged. -/
def refRow (b : Fin 4) (R : Fin 14336) : Fin 2048 → Fin 2 → EReal :=
  mergeAt (fun c => x0 (ix3 b R c)) (fun g => x1 (ix3 b R g)) (fun r => x3 (ix3 b R r)) (fun r col => x2 (ix3 b r col))

/-- The signed value of a byte's low four bits. -/
theorem low_nibble : ∀ w : BitVec 8, (Scalar.select
    (IntOp.cmpi CmpIPredicate.sge (IntOp.andi (IntOp.shrsi ArithUnit.host (BitVec.setWidth 32 w) 0#32) 15#32) 8#32)
    (IntOp.subi (IntOp.andi (IntOp.shrsi ArithUnit.host (BitVec.setWidth 32 w) 0#32) 15#32) 16#32)
    (IntOp.andi (IntOp.shrsi ArithUnit.host (BitVec.setWidth 32 w) 0#32) 15#32)).toInt = (w.extractLsb' (4 * (0 : Fin 2).val) 4).toInt := by
  decide +kernel

/-- The signed value of a byte's high four bits. -/
theorem high_nibble : ∀ w : BitVec 8, (Scalar.select
    (IntOp.cmpi CmpIPredicate.sge (IntOp.andi (IntOp.shrsi ArithUnit.host (BitVec.setWidth 32 w) 4#32) 15#32) 8#32)
    (IntOp.subi (IntOp.andi (IntOp.shrsi ArithUnit.host (BitVec.setWidth 32 w) 4#32) 15#32) 16#32)
    (IntOp.andi (IntOp.shrsi ArithUnit.host (BitVec.setWidth 32 w) 4#32) 15#32)).toInt = (w.extractLsb' (4 * (1 : Fin 2).val) 4).toInt := by
  decide +kernel

/-- The reference's factor of the low-rank product, sixteen over the rank. -/
theorem lora_scale : Ideal.div (Ideal.ofBits FTy.f32 1098907648#32) (Ideal.ofBits FTy.f32 1103101952#32) = ((2 / 3 : ℝ) : EReal) := by
  rw [show (1098907648#32) = 0x41800000#32 from rfl, show (1103101952#32) = 0x41C00000#32 from rfl, ofBits_sixteen, ofBits_24]
  unfold Ideal.div
  rw [if_neg (by exact_mod_cast (by norm_num : (24 : ℝ) ≠ 0)), ← EReal.coe_inv, ← EReal.coe_mul]
  norm_num

set_option maxHeartbeats 1000000 in
theorem ref_v39 (b : Fin 4) (R : Fin 14336) (g : Fin 32) (k : Fin 64) :
    val_main_v39 x0 x1 x2 x3 (ix4 b R g k) = refRow x0 x1 x2 x3 b R (grpCol g k) 0 := by
  rw [val_main_v39_apply, val_main_v38_apply, val_main_v31_apply]
  unfold val_main_v36 val_main_v14 val_main_v13 val_main_v1 val_main_v12 val_main_v11 val_main_v10 val_main_v9 val_main_v8 val_main_v7 val_main_v6 val_main_v5 val_main_v4 val_main_v3 val_main_v2 val_main_v0 val_main_c val_main_c_0 val_main_c_1 val_main_c_2 val_main_v37 val_main_v35 val_main_cst val_main_cst_7 val_main_v30 val_main_v29 val_main_v28
  pointwise
  rw [lora_scale]
  unfold refRow mergeAt codeVal
  rw [← low_nibble]
  congr 1
  · congr 2
    exact congrArg (fun g => ix3 b R g) (Fin.ext (by show g.val = (g.val * 64 + k.val) / 64; omega))
  · congr 1
    refine Finset.sum_congr rfl fun r _ => ?_
    congr 2
    · exact eq_ix3 _
    · exact congrArg (fun g => ix3 b r g) (Fin.ext (by show g.val * 128 + k.val * 2 = 2 * (g.val * 64 + k.val) + 0; omega))

set_option maxHeartbeats 1000000 in
theorem ref_v43 (b : Fin 4) (R : Fin 14336) (g : Fin 32) (k : Fin 64) :
    val_main_v43 x0 x1 x2 x3 (ix4 b R g k) = refRow x0 x1 x2 x3 b R (grpCol g k) 1 := by
  rw [val_main_v43_apply, val_main_v42_apply, val_main_v34_apply]
  unfold val_main_v40 val_main_v27 val_main_v26 val_main_v1 val_main_v25 val_main_v24 val_main_v23 val_main_v22 val_main_v21 val_main_v20 val_main_v19 val_main_v18 val_main_v17 val_main_v16 val_main_v15 val_main_v0 val_main_c_3 val_main_c_4 val_main_c_5 val_main_c_6 val_main_v41 val_main_v35 val_main_cst val_main_cst_7 val_main_v33 val_main_v32 val_main_v28
  pointwise
  rw [lora_scale]
  unfold refRow mergeAt codeVal
  rw [← high_nibble]
  congr 1
  · congr 2
    exact congrArg (fun g => ix3 b R g) (Fin.ext (by show g.val = (g.val * 64 + k.val) / 64; omega))
  · congr 1
    refine Finset.sum_congr rfl fun r _ => ?_
    congr 2
    · exact eq_ix3 _
    · exact congrArg (fun g => ix3 b r g) (Fin.ext (by show g.val * 128 + (k.val * 2 + 1) = 2 * (g.val * 64 + k.val) + 1; omega))

/-- A sum over a row's bytes, group by group. -/
theorem sum_groups (f : Fin 2048 → EReal) : ∑ g : Fin 32, ∑ k : Fin 64, f (grpCol g k) = ∑ c, f c := by
  rw [← Finset.sum_product', Finset.univ_product_univ]
  refine Fintype.sum_equiv (finProdFinEquiv (m := 32) (n := 64)) _ _ fun p => ?_
  congr 1
  exact Fin.ext (by show p.1.val * 64 + p.2.val = p.2.val + 64 * p.1.val; omega)

set_option maxHeartbeats 1000000 in
theorem ref_v48 (b : Fin 4) (R : Fin 14336) : val_main_v48 x0 x1 x2 x3 (ix2 b R) = rowNorm2 (refRow x0 x1 x2 x3 b R) := by
  rw [val_main_v48_apply]
  unfold val_main_v45 val_main_v47 val_main_v44 val_main_v46
  have h0 := ref_v39 x0 x1 x2 x3 b R
  have h1 := ref_v43 x0 x1 x2 x3 b R
  generalize val_main_v39 x0 x1 x2 x3 = y at h0 ⊢
  generalize val_main_v43 x0 x1 x2 x3 = y' at h1 ⊢
  pointwise [val_main_cst_8, val_main_cst_9]
  rw [rowNorm2, ← sum_groups, ← sum_groups]
  congr 1
  · exact Finset.sum_congr rfl fun g _ => Finset.sum_congr rfl fun k _ => congrArg₂ _ (h0 g k) (h0 g k)
  · exact Finset.sum_congr rfl fun g _ => Finset.sum_congr rfl fun k _ => congrArg₂ _ (h1 g k) (h1 g k)

set_option maxHeartbeats 1000000 in
theorem ref_v53 (b : Fin 4) (R : Fin 14336) (g : Fin 32) (k : Fin 64) :
    val_main_v53 x0 x1 x2 x3 x4 (ix4 b R g k)
      = refRow x0 x1 x2 x3 b R (grpCol g k) 0 * rowFac (refRow x0 x1 x2 x3 b R) (x4 (ix2 b R)) := by
  rw [val_main_v53_apply, ref_v39]
  unfold val_main_v52 val_main_v51 val_main_v50 val_main_v49
  rw [rowFac, ← ref_v48]
  generalize val_main_v48 x0 x1 x2 x3 = y
  pointwise

set_option maxHeartbeats 1000000 in
theorem ref_v55 (b : Fin 4) (R : Fin 14336) (g : Fin 32) (k : Fin 64) :
    val_main_v55 x0 x1 x2 x3 x4 (ix4 b R g k)
      = refRow x0 x1 x2 x3 b R (grpCol g k) 1 * rowFac (refRow x0 x1 x2 x3 b R) (x4 (ix2 b R)) := by
  rw [val_main_v55_apply, ref_v43]
  unfold val_main_v54 val_main_v51 val_main_v50 val_main_v49
  rw [rowFac, ← ref_v48]
  generalize val_main_v48 x0 x1 x2 x3 = y
  pointwise

theorem ref_v60 (b : Fin 4) (R : Fin 14336) (g : Fin 32) :
    val_main_v60 x0 x1 x2 x3 x4 (ix3 b R g) = rowMax (refRow x0 x1 x2 x3 b R) (rowFac (refRow x0 x1 x2 x3 b R) (x4 (ix2 b R))) g := by
  rw [val_main_v60_apply]
  unfold val_main_v57 val_main_v59 val_main_cst_10 val_main_cst_11
  refine congrArg₂ max ((maxRed _ b R g).trans ?_) ((maxRed _ b R g).trans ?_)
  · refine congrArg _ (funext fun k => ?_)
    rw [val_main_v56_apply, ref_v53]; rfl
  · refine congrArg _ (funext fun k => ?_)
    rw [val_main_v58_apply, ref_v55]; rfl

/-- The chosen scale, as the reference spells it. -/
theorem scale_of_scalar (H : Ideal .f32) : (FloatOps.truncf FTy.bf16 bitsLt_bf16_f32
      (Scalar.select (FloatOps.cmpf (F := Ideal) (φ := .f32) CmpFPredicate.ogt H (FloatOps.ofBits FTy.f32 0#32))
        (FloatOps.hostDivf H (FloatOps.ofBits FTy.f32 1088421888#32)) (FloatOps.ofBits FTy.f32 1065353216#32)) : Ideal .bf16) = scaleOf H := by
  unfold scaleOf
  rw [← Ideal.ofBits_one_f32]
  pointwise

/-- The clamp's upper end. -/
theorem upper_clamp :
  FloatOps.sitofp (F := Ideal) FTy.f32 7#32 = Ideal.ofBits FTy.f32 0x40E00000#32 := by
  rw [ofBits_seven]
  show (((7#32).toInt : ℝ) : EReal) = _
  rw [show (7#32).toInt = 7 by decide]
  norm_num
/-- The clamp's lower end. -/
theorem lower_clamp :
  FloatOps.sitofp (F := Ideal) FTy.f32 4294967289#32 = Ideal.ofBits FTy.f32 0xC0E00000#32 := by
  rw [ofBits_neg_seven]
  show (((4294967289#32).toInt : ℝ) : EReal) = _
  rw [show (4294967289#32).toInt = -7 by decide]
  norm_num

/-- A scaled element's code: rounded to nearest even and clamped to [-7, 7]. -/
def codeOf (x : EReal) : BitVec 32 :=
  FloatOps.fptosi (F := Ideal) (φ := .f32) 32 (min (Ideal.ofBits FTy.f32 1088421888#32) (max (Ideal.ofBits FTy.f32 3235905536#32) (Ideal.liftRound Ideal.roundHalfEven x)))

/-- The reference packs the two codes in the other order. -/
theorem pack_comm (x y : EReal) :
    BitVec.setWidth 8 (IntOp.ori (IntOp.shli ArithUnit.host (IntOp.andi (codeOf y) 15#32) 4#32) (IntOp.andi (codeOf x) 15#32)) = packByte x y := by
  unfold packByte
  change _ = BitVec.setWidth 8 (IntOp.ori (IntOp.andi (codeOf x) 15#32) (IntOp.shli ArithUnit.vector (IntOp.andi (codeOf y) 15#32) 4#32))
  generalize codeOf x = a
  generalize codeOf y = b
  exact congrArg _ (BitVec.or_comm _ _)

/-- The reference's new scales. -/
theorem ref_scale (b : Fin 4) (R : Fin 14336) (g : Fin 32) :
    val_main_v66 x0 x1 x2 x3 x4 (ix3 b R g) = rowScale (refRow x0 x1 x2 x3 b R) (x4 (ix2 b R)) g := by
  rw [val_main_v66_apply, val_main_v65_apply, val_main_v64_apply, val_main_v63_apply, val_main_v62_apply, val_main_v61_apply, val_main_call2_v1_apply, val_main_call2_v0_apply, ref_v60,
    val_main_cst_12_apply, val_main_cst_13_apply, val_main_cst_14_apply]
  exact scale_of_scalar _

theorem ref_v73 (b : Fin 4) (R : Fin 14336) (g : Fin 32) (k : Fin 64) :
    val_main_v73 x0 x1 x2 x3 x4 (ix4 b R g k) = codeOf (Ideal.div (val_main_v53 x0 x1 x2 x3 x4 (ix4 b R g k)) (val_main_v66 x0 x1 x2 x3 x4 (ix3 b R g))) := by
  rw [val_main_v73_apply, val_main_v72_apply, val_main_call4_v4_apply, val_main_call4_v3_apply, val_main_c_16_apply, val_main_call4_v2_apply, val_main_call4_v1_apply,
    val_main_call4_v0_apply, val_main_c_15_apply, val_main_v71_apply, val_main_v70_apply, val_main_v69_apply, val_main_v68_apply, val_main_v67_apply, upper_clamp, lower_clamp,
    show idx_main_v68 (idx_main_v69 (ix4 b R g k)) = ix3 b R g from eq_ix3 _]
  generalize val_main_v53 x0 x1 x2 x3 x4 (ix4 b R g k) = p
  generalize val_main_v66 x0 x1 x2 x3 x4 (ix3 b R g) = s
  rfl

theorem ref_v78 (b : Fin 4) (R : Fin 14336) (g : Fin 32) (k : Fin 64) :
    val_main_v78 x0 x1 x2 x3 x4 (ix4 b R g k) = codeOf (Ideal.div (val_main_v55 x0 x1 x2 x3 x4 (ix4 b R g k)) (val_main_v66 x0 x1 x2 x3 x4 (ix3 b R g))) := by
  rw [val_main_v78_apply, val_main_v77_apply, val_main_call6_v4_apply, val_main_call6_v3_apply, val_main_c_18_apply, val_main_call6_v2_apply, val_main_call6_v1_apply,
    val_main_call6_v0_apply, val_main_c_17_apply, val_main_v76_apply, val_main_v75_apply, val_main_v74_apply, val_main_v68_apply, val_main_v67_apply, upper_clamp, lower_clamp,
    show idx_main_v68 (idx_main_v74 (ix4 b R g k)) = ix3 b R g from eq_ix3 _]
  generalize val_main_v55 x0 x1 x2 x3 x4 (ix4 b R g k) = p
  generalize val_main_v66 x0 x1 x2 x3 x4 (ix3 b R g) = s
  rfl

/-- The reference's new codes. -/
theorem ref_byte (b : Fin 4) (R : Fin 14336) (g : Fin 32) (k : Fin 64) :
    val_main_v86 x0 x1 x2 x3 x4 (ix4 b R g k) = rowByte (refRow x0 x1 x2 x3 b R) (x4 (ix2 b R)) (grpCol g k) := by
  have hg : (⟨(grpCol g k).val / 64, by omega⟩ : Fin 32) = g := Fin.ext (by show (g.val * 64 + k.val) / 64 = g.val; omega)
  rw [rowByte, hg, ← ref_v53, ← ref_v55, ← ref_scale, val_main_v86_apply, val_main_v85_apply, val_main_v82_apply, val_main_v80_apply, val_main_v79_apply, val_main_c_19_apply, val_main_v81_apply,
    val_main_c_20_apply, val_main_v84_apply, val_main_v83_apply, val_main_c_21_apply, ref_v73, ref_v78]
  exact pack_comm _ _

/-- The first result at an index. -/
theorem ref_codes (b : Fin 4) (R : Fin 14336) (c : Fin 2048) :
    val_main_v87 x0 x1 x2 x3 x4 (ix3 b R c) = rowByte (refRow x0 x1 x2 x3 b R) (x4 (ix2 b R)) c := by
  have hc : grpCol ⟨c.val / 64, by omega⟩ ⟨c.val % 64, by omega⟩ = c := Fin.ext (by show c.val / 64 * 64 + c.val % 64 = c.val; omega)
  rw [val_main_v87_apply, show idx_main_v87 (ix3 b R c) = ix4 b R ⟨c.val / 64, by omega⟩ ⟨c.val % 64, by omega⟩ from ?_, ref_byte, hc]
  funext a
  match a with
  | ⟨0, _⟩ => exact Fin.ext (by show _ / _ = b.val; dsimp; omega)
  | ⟨1, _⟩ => exact Fin.ext (by show _ = R.val; dsimp; omega)
  | ⟨2, _⟩ => exact Fin.ext (by show _ = c.val / 64; dsimp; omega)
  | ⟨3, _⟩ => exact Fin.ext (by show _ = c.val % 64; dsimp; omega)

/-- The second result at an index: four rows of 32 scales are one row of 128. -/
theorem ref_scales (b : Fin 4) (j : Fin 3584) (p : Fin 128) :
    val_main_v88 x0 x1 x2 x3 x4 (ix3 b j p)
      = rowScale (refRow x0 x1 x2 x3 b ⟨j.val * 4 + p.val / 32, by omega⟩) (x4 (ix2 b ⟨j.val * 4 + p.val / 32, by omega⟩)) ⟨p.val % 32, by omega⟩ := by
  rw [val_main_v88_apply, show idx_main_v88 (ix3 b j p) = ix3 b ⟨j.val * 4 + p.val / 32, by omega⟩ ⟨p.val % 32, by omega⟩ from ?_, ref_scale]
  funext a
  match a with
  | ⟨0, _⟩ => exact Fin.ext (by show _ = b.val; dsimp; omega)
  | ⟨1, _⟩ => exact Fin.ext (by show _ = j.val * 4 + p.val / 32; dsimp; omega)
  | ⟨2, _⟩ => exact Fin.ext (by show _ = p.val % 32; dsimp; omega)

end Cert.KernelIdeal.Hand
-- ==== Proof.KernelIdeal.Final.lean ====
/- The kernel's run with its two results, and the reference's two results, as the same mathematics of the arguments. -/
module

public import proofs.«01_k».proof.Proof.KernelIdeal.Arrays
public import proofs.«01_k».proof.Proof.KernelIdeal.RefRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Rounds Idealize.ShloMosaic.Pipeline

variable (m : (ℓ : Loc nD τ sig) → Buf (Elt Ideal) ℓ) (ρ : Dev nD → PrngReg)

/-- The kernel ends with the new codes and the new scales of its arguments, and with the arguments as they were. -/
theorem run_results : θ_run defs (onTc (τ := τ) (main (F := Ideal))) ⟨m, fun _ => 0, ρ⟩ (fun r => ∀ c : Dev nD,
      r.2.mem ((c.tc : Thread nD τ).loc main_v21_0) = codesArr m c
      ∧ r.2.mem ((c.tc : Thread nD τ).loc main_v21_1) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(FramePost.out_eq h.1 c 8).trans (arr8 m c), (FramePost.out_eq h.1 c 9).trans (arr9 m c),
      (FramePost.in_eq h.1 c 0 rfl).trans (V_main_arg0 m c),
      ((h.1 c).2 main_arg1 (mem_restRefs_of main_arg1 (by decide) (by decide))).trans (V_main_arg1 m c),
      ((h.1 c).2 main_arg2 (mem_restRefs_of main_arg2 (by decide) (by decide))).trans (V_main_arg2 m c),
      ((h.1 c).2 main_arg3 (mem_restRefs_of main_arg3 (by decide) (by decide))).trans (V_main_arg3 m c),
      ((h.1 c).2 main_arg4 (mem_restRefs_of main_arg4 (by decide) (by decide))).trans (V_main_arg4 m c)⟩) (run_vals m ρ)

/-- The reference's first result, of the kernel's arguments, is the new codes. -/
theorem ref_codes_args (c : Dev nD) :
    Cert.ReferenceIdeal.Read.val_main_v87 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      = codesArr m c := by
  funext ix
  obtain ⟨b, R, cc, rfl⟩ : ∃ b R cc, ix = ix3 b R cc := ⟨_, _, _, eq_ix3 ix⟩
  rw [ref_codes]
  rfl

/-- The reference's second result, of the kernel's arguments, is the new scales. -/
theorem ref_scales_args (c : Dev nD) :
    Cert.ReferenceIdeal.Read.val_main_v88 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      = scalesArr m c := by
  funext ix
  obtain ⟨b, j, p, rfl⟩ : ∃ b j p, ix = ix3 b j p := ⟨_, _, _, eq_ix3 ix⟩
  rw [ref_scales]
  rfl

end Cert.KernelIdeal.Hand

end
-- ==== Proof.lean ====
module

public import proofs.«01_k».proof.Defs
public import proofs.«01_k».proof.Proof.Kernel.Region
public import proofs.«01_k».proof.Proof.KernelIdeal.Region
public import proofs.«01_k».proof.Proof.KernelIdeal.Final
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The facts the re-typing of the scratch buffer of packed bfloat16 words rests on, at the shapes it is used. -/
theorem preserved : preserves_Kernel_KernelIdeal :=
  ⟨IdealRules.bf16_pair.bufferStatement _ _, IdealRules.bf16_pair.packStatement _,
    IdealRules.bf16_pair.statement _ _ (by decide), IdealRules.bf16_pair.statement _ _ (by decide),
    IdealRules.bf16_pair.statement _ _ (by decide)⟩

/-- The reference leaves its arguments as they were; it declares no semaphore. -/
theorem referenceFrame : quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/-- Over extended reals the kernel and the reference, from the same arguments, end with the same two results: the new codes
    and the new scales, element by element, and with the arguments as they were. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.codesArr m c, fun c => Cert.KernelIdeal.Hand.scalesArr m c, Cert.KernelIdeal.Hand.run_results m g, ?_⟩
  refine (θ_run Cert.ReferenceIdeal.defs _ _).mono (fun r h c => ?_) (Cert.ReferenceIdeal.Value.run (F := Ideal) m' g')
  obtain ⟨h0, h1, hr⟩ := h c
  obtain ⟨a0, a1, a2, a3, a4⟩ := hargs c
  refine ⟨(h0.trans (Cert.ReferenceIdeal.Read.val_main_v87_eq _)).trans ?_, (h1.trans (Cert.ReferenceIdeal.Read.val_main_v88_eq _)).trans ?_, hr⟩
  · refine Eq.trans ?_ (Cert.KernelIdeal.Hand.ref_codes_args m c)
    rw [← a0, ← a1, ← a2, ← a3, ← a4]
  · refine Eq.trans ?_ (Cert.KernelIdeal.Hand.ref_scales_args m c)
    rw [← a0, ← a1, ← a2, ← a3, ← a4]

/-- The kernel's run and its idealization's leave the arguments and the semaphores as they should, the reference's too,
    the idealization preserves the program, and the idealization computes what the reference computes. -/
theorem claim : Cert.Claim :=
  ⟨Cert.Kernel.Gen.facts, Cert.KernelIdeal.Gen.facts, Cert.ReferenceIdeal.Gen.facts,
    fun m ρ _ => Cert.Kernel.Hand.frame_any m ρ,
    fun m ρ _ => Cert.KernelIdeal.Hand.frame_any m ρ,
    referenceFrame,
    preserved, algebraic⟩

end Cert.Proof

end
